-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attends_finite [hPre_attends_finite : Cert.Pre_attends_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attends_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_attends_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_attends_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attends_finite [hPre_attends_finite : Cert.Pre_attends_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attends_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_attends_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_attends_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_MemQuery (m : (ℓ : Loc Cert.MemQuery.nD Cert.MemQuery.τ Cert.MemQuery.sig) → Buf (Elt Bits) ℓ) : Prop :=
  True

def Pre_MemQueryIdeal (m : (ℓ : Loc Cert.MemQueryIdeal.nD Cert.MemQueryIdeal.τ Cert.MemQueryIdeal.sig) → Buf (Elt Ideal) ℓ) : Prop :=
  True

def Pre_MemQueryReferenceIdeal (m : (ℓ : Loc Cert.MemQueryReferenceIdeal.nD Cert.MemQueryReferenceIdeal.τ Cert.MemQueryReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedReferenceIdeal (m : (ℓ : Loc Cert.MixedReferenceIdeal.nD Cert.MixedReferenceIdeal.τ Cert.MixedReferenceIdeal.sig) → Buf (Elt Ideal) ℓ) : Prop :=
  True

def Pre_Recalled (m : (ℓ : Loc Cert.Recalled.nD Cert.Recalled.τ Cert.Recalled.sig) → Buf (Elt Bits) ℓ) : Prop :=
  True

def Pre_RecalledIdeal (m : (ℓ : Loc Cert.RecalledIdeal.nD Cert.RecalledIdeal.τ Cert.RecalledIdeal.sig) → Buf (Elt Ideal) ℓ) : Prop :=
  True

def Pre_RecalledReferenceIdeal (m : (ℓ : Loc Cert.RecalledReferenceIdeal.nD Cert.RecalledReferenceIdeal.τ Cert.RecalledReferenceIdeal.sig) → Buf (Elt Ideal) ℓ) : Prop :=
  True

def Pre_LastNorm (m : (ℓ : Loc Cert.LastNorm.nD Cert.LastNorm.τ Cert.LastNorm.sig) → Buf (Elt Bits) ℓ) : Prop :=
  True

def Pre_LastNormIdeal (m : (ℓ : Loc Cert.LastNormIdeal.nD Cert.LastNormIdeal.τ Cert.LastNormIdeal.sig) → Buf (Elt Ideal) ℓ) : Prop :=
  True

def Pre_LastNormReferenceIdeal (m : (ℓ : Loc Cert.LastNormReferenceIdeal.nD Cert.LastNormReferenceIdeal.τ Cert.LastNormReferenceIdeal.sig) → Buf (Elt Ideal) ℓ) : Prop :=
  True

def Pre_Recall (m : (ℓ : Loc Cert.Recall.nD Cert.Recall.τ Cert.Recall.sig) → Buf (Elt Bits) ℓ) : Prop :=
  True

def Pre_RecallIdeal (m : (ℓ : Loc Cert.RecallIdeal.nD Cert.RecallIdeal.τ Cert.RecallIdeal.sig) → Buf (Elt Ideal) ℓ) : Prop :=
  True

def Pre_RecallIdeal_recalls_finite [hPre_recalls_finite : Cert.Pre_recalls_finite.Facts] (m : (ℓ : Loc Cert.RecallIdeal.nD Cert.RecallIdeal.τ Cert.RecallIdeal.sig) → Buf (Elt Ideal) ℓ) : Prop :=
  ∀ c : Dev Cert.RecallIdeal.nD,
    (Cert.Pre_recalls_finite.fn (F := Ideal) (m ((c.tc : Thread Cert.RecallIdeal.nD Cert.RecallIdeal.τ).loc Cert.RecallIdeal.main_arg0)) (m ((c.tc : Thread Cert.RecallIdeal.nD Cert.RecallIdeal.τ).loc Cert.RecallIdeal.main_arg1))).1 = (fun _ => 1#1)
    ∧ (Cert.Pre_recalls_finite.fn (F := Ideal) (m ((c.tc : Thread Cert.RecallIdeal.nD Cert.RecallIdeal.τ).loc Cert.RecallIdeal.main_arg0)) (m ((c.tc : Thread Cert.RecallIdeal.nD Cert.RecallIdeal.τ).loc Cert.RecallIdeal.main_arg1))).2 = (fun _ => 1#1)

def Pre_RecallReferenceIdeal (m : (ℓ : Loc Cert.RecallReferenceIdeal.nD Cert.RecallReferenceIdeal.τ Cert.RecallReferenceIdeal.sig) → Buf (Elt Ideal) ℓ) : Prop :=
  True

def Pre_RecallReferenceIdeal_recalls_finite [hPre_recalls_finite : Cert.Pre_recalls_finite.Facts] (m : (ℓ : Loc Cert.RecallReferenceIdeal.nD Cert.RecallReferenceIdeal.τ Cert.RecallReferenceIdeal.sig) → Buf (Elt Ideal) ℓ) : Prop :=
  ∀ c : Dev Cert.RecallReferenceIdeal.nD,
    (Cert.Pre_recalls_finite.fn (F := Ideal) (m ((c.tc : Thread Cert.RecallReferenceIdeal.nD Cert.RecallReferenceIdeal.τ).loc Cert.RecallReferenceIdeal.main_arg0)) (m ((c.tc : Thread Cert.RecallReferenceIdeal.nD Cert.RecallReferenceIdeal.τ).loc Cert.RecallReferenceIdeal.main_arg1))).1 = (fun _ => 1#1)
    ∧ (Cert.Pre_recalls_finite.fn (F := Ideal) (m ((c.tc : Thread Cert.RecallReferenceIdeal.nD Cert.RecallReferenceIdeal.τ).loc Cert.RecallReferenceIdeal.main_arg0)) (m ((c.tc : Thread Cert.RecallReferenceIdeal.nD Cert.RecallReferenceIdeal.τ).loc Cert.RecallReferenceIdeal.main_arg1))).2 = (fun _ => 1#1)

def Pre_DiffKv (m : (ℓ : Loc Cert.DiffKv.nD Cert.DiffKv.τ Cert.DiffKv.sig) → Buf (Elt Bits) ℓ) : Prop :=
  True

def Pre_DiffKvIdeal (m : (ℓ : Loc Cert.DiffKvIdeal.nD Cert.DiffKvIdeal.τ Cert.DiffKvIdeal.sig) → Buf (Elt Ideal) ℓ) : Prop :=
  True

def Pre_DiffKvReferenceIdeal (m : (ℓ : Loc Cert.DiffKvReferenceIdeal.nD Cert.DiffKvReferenceIdeal.τ Cert.DiffKvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_attends_finite [hKernelIdeal : Cert.KernelIdeal.Facts] [hPre_attends_finite : Cert.Pre_attends_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attends_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_attends_finite [hReferenceIdeal : Cert.ReferenceIdeal.Facts] [hPre_attends_finite : Cert.Pre_attends_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attends_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1)
      ∧ r.2.mem ((c.tc : Thread Cert.InEvenReferenceIdeal.nD Cert.InEvenReferenceIdeal.τ).loc Cert.InEvenReferenceIdeal.main_arg2) = m ((c.tc : Thread Cert.InEvenReferenceIdeal.nD Cert.InEvenReferenceIdeal.τ).loc Cert.InEvenReferenceIdeal.main_arg2))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1)
      ∧ r.2.mem ((c.tc : Thread Cert.InOddReferenceIdeal.nD Cert.InOddReferenceIdeal.τ).loc Cert.InOddReferenceIdeal.main_arg2) = m ((c.tc : Thread Cert.InOddReferenceIdeal.nD Cert.InOddReferenceIdeal.τ).loc Cert.InOddReferenceIdeal.main_arg2))
      ∧ r.2.sem = fun _ => 0)

def quiescent_MemQuery [hMemQuery : Cert.MemQuery.Facts] : Prop :=
  ∀ (m : (ℓ : Loc Cert.MemQuery.nD Cert.MemQuery.τ Cert.MemQuery.sig) → Buf (Elt Bits) ℓ) (g : Dev Cert.MemQuery.nD → PrngReg), Pre_MemQuery m →
    θ_run (Cert.MemQuery.defs (F := Bits)) (onTc (τ := Cert.MemQuery.τ) (Cert.MemQuery.main (F := Bits))) ⟨m, fun _ => 0, g⟩ (fun r => (∀ c : Dev Cert.MemQuery.nD,
      r.2.mem ((c.tc : Thread Cert.MemQuery.nD Cert.MemQuery.τ).loc Cert.MemQuery.main_arg0) = m ((c.tc : Thread Cert.MemQuery.nD Cert.MemQuery.τ).loc Cert.MemQuery.main_arg0)
      ∧ r.2.mem ((c.tc : Thread Cert.MemQuery.nD Cert.MemQuery.τ).loc Cert.MemQuery.main_arg1) = m ((c.tc : Thread Cert.MemQuery.nD Cert.MemQuery.τ).loc Cert.MemQuery.main_arg1)
      ∧ r.2.mem ((c.tc : Thread Cert.MemQuery.nD Cert.MemQuery.τ).loc Cert.MemQuery.main_arg2) = m ((c.tc : Thread Cert.MemQuery.nD Cert.MemQuery.τ).loc Cert.MemQuery.main_arg2))
      ∧ r.2.sem = fun _ => 0)

def quiescent_MemQueryIdeal [hMemQueryIdeal : Cert.MemQueryIdeal.Facts] : Prop :=
  ∀ (m : (ℓ : Loc Cert.MemQueryIdeal.nD Cert.MemQueryIdeal.τ Cert.MemQueryIdeal.sig) → Buf (Elt Ideal) ℓ) (g : Dev Cert.MemQueryIdeal.nD → PrngReg), Pre_MemQueryIdeal m →
    θ_run (Cert.MemQueryIdeal.defs (F := Ideal)) (onTc (τ := Cert.MemQueryIdeal.τ) (Cert.MemQueryIdeal.main (F := Ideal))) ⟨m, fun _ => 0, g⟩ (fun r => (∀ c : Dev Cert.MemQueryIdeal.nD,
      r.2.mem ((c.tc : Thread Cert.MemQueryIdeal.nD Cert.MemQueryIdeal.τ).loc Cert.MemQueryIdeal.main_arg0) = m ((c.tc : Thread Cert.MemQueryIdeal.nD Cert.MemQueryIdeal.τ).loc Cert.MemQueryIdeal.main_arg0)
      ∧ r.2.mem ((c.tc : Thread Cert.MemQueryIdeal.nD Cert.MemQueryIdeal.τ).loc Cert.MemQueryIdeal.main_arg1) = m ((c.tc : Thread Cert.MemQueryIdeal.nD Cert.MemQueryIdeal.τ).loc Cert.MemQueryIdeal.main_arg1)
      ∧ r.2.mem ((c.tc : Thread Cert.MemQueryIdeal.nD Cert.MemQueryIdeal.τ).loc Cert.MemQueryIdeal.main_arg2) = m ((c.tc : Thread Cert.MemQueryIdeal.nD Cert.MemQueryIdeal.τ).loc Cert.MemQueryIdeal.main_arg2))
      ∧ r.2.sem = fun _ => 0)

def quiescent_MemQueryReferenceIdeal [hMemQueryReferenceIdeal : Cert.MemQueryReferenceIdeal.Facts] : Prop :=
  ∀ (m : (ℓ : Loc Cert.MemQueryReferenceIdeal.nD Cert.MemQueryReferenceIdeal.τ Cert.MemQueryReferenceIdeal.sig) → Buf (Elt Ideal) ℓ) (g : Dev Cert.MemQueryReferenceIdeal.nD → PrngReg), Pre_MemQueryReferenceIdeal m →
    θ_run (Cert.MemQueryReferenceIdeal.defs (F := Ideal)) (onTc (τ := Cert.MemQueryReferenceIdeal.τ) (Cert.MemQueryReferenceIdeal.main (F := Ideal))) ⟨m, fun _ => 0, g⟩ (fun r => (∀ c : Dev Cert.MemQueryReferenceIdeal.nD,
      r.2.mem ((c.tc : Thread Cert.MemQueryReferenceIdeal.nD Cert.MemQueryReferenceIdeal.τ).loc Cert.MemQueryReferenceIdeal.main_arg0) = m ((c.tc : Thread Cert.MemQueryReferenceIdeal.nD Cert.MemQueryReferenceIdeal.τ).loc Cert.MemQueryReferenceIdeal.main_arg0)
      ∧ r.2.mem ((c.tc : Thread Cert.MemQueryReferenceIdeal.nD Cert.MemQueryReferenceIdeal.τ).loc Cert.MemQueryReferenceIdeal.main_arg1) = m ((c.tc : Thread Cert.MemQueryReferenceIdeal.nD Cert.MemQueryReferenceIdeal.τ).loc Cert.MemQueryReferenceIdeal.main_arg1)
      ∧ r.2.mem ((c.tc : Thread Cert.MemQueryReferenceIdeal.nD Cert.MemQueryReferenceIdeal.τ).loc Cert.MemQueryReferenceIdeal.main_arg2) = m ((c.tc : Thread Cert.MemQueryReferenceIdeal.nD Cert.MemQueryReferenceIdeal.τ).loc Cert.MemQueryReferenceIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3))
      ∧ r.2.sem = fun _ => 0)

def quiescent_MixedReferenceIdeal [hMixedReferenceIdeal : Cert.MixedReferenceIdeal.Facts] : Prop :=
  ∀ (m : (ℓ : Loc Cert.MixedReferenceIdeal.nD Cert.MixedReferenceIdeal.τ Cert.MixedReferenceIdeal.sig) → Buf (Elt Ideal) ℓ) (g : Dev Cert.MixedReferenceIdeal.nD → PrngReg), Pre_MixedReferenceIdeal m →
    θ_run (Cert.MixedReferenceIdeal.defs (F := Ideal)) (onTc (τ := Cert.MixedReferenceIdeal.τ) (Cert.MixedReferenceIdeal.main (F := Ideal))) ⟨m, fun _ => 0, g⟩ (fun r => (∀ c : Dev Cert.MixedReferenceIdeal.nD,
      r.2.mem ((c.tc : Thread Cert.MixedReferenceIdeal.nD Cert.MixedReferenceIdeal.τ).loc Cert.MixedReferenceIdeal.main_arg0) = m ((c.tc : Thread Cert.MixedReferenceIdeal.nD Cert.MixedReferenceIdeal.τ).loc Cert.MixedReferenceIdeal.main_arg0)
      ∧ r.2.mem ((c.tc : Thread Cert.MixedReferenceIdeal.nD Cert.MixedReferenceIdeal.τ).loc Cert.MixedReferenceIdeal.main_arg1) = m ((c.tc : Thread Cert.MixedReferenceIdeal.nD Cert.MixedReferenceIdeal.τ).loc Cert.MixedReferenceIdeal.main_arg1)
      ∧ r.2.mem ((c.tc : Thread Cert.MixedReferenceIdeal.nD Cert.MixedReferenceIdeal.τ).loc Cert.MixedReferenceIdeal.main_arg2) = m ((c.tc : Thread Cert.MixedReferenceIdeal.nD Cert.MixedReferenceIdeal.τ).loc Cert.MixedReferenceIdeal.main_arg2)
      ∧ r.2.mem ((c.tc : Thread Cert.MixedReferenceIdeal.nD Cert.MixedReferenceIdeal.τ).loc Cert.MixedReferenceIdeal.main_arg3) = m ((c.tc : Thread Cert.MixedReferenceIdeal.nD Cert.MixedReferenceIdeal.τ).loc Cert.MixedReferenceIdeal.main_arg3))
      ∧ r.2.sem = fun _ => 0)

def quiescent_Recalled [hRecalled : Cert.Recalled.Facts] : Prop :=
  ∀ (m : (ℓ : Loc Cert.Recalled.nD Cert.Recalled.τ Cert.Recalled.sig) → Buf (Elt Bits) ℓ) (g : Dev Cert.Recalled.nD → PrngReg), Pre_Recalled m →
    θ_run (Cert.Recalled.defs (F := Bits)) (onTc (τ := Cert.Recalled.τ) (Cert.Recalled.main (F := Bits))) ⟨m, fun _ => 0, g⟩ (fun r => (∀ c : Dev Cert.Recalled.nD,
      r.2.mem ((c.tc : Thread Cert.Recalled.nD Cert.Recalled.τ).loc Cert.Recalled.main_arg0) = m ((c.tc : Thread Cert.Recalled.nD Cert.Recalled.τ).loc Cert.Recalled.main_arg0)
      ∧ r.2.mem ((c.tc : Thread Cert.Recalled.nD Cert.Recalled.τ).loc Cert.Recalled.main_arg1) = m ((c.tc : Thread Cert.Recalled.nD Cert.Recalled.τ).loc Cert.Recalled.main_arg1)
      ∧ r.2.mem ((c.tc : Thread Cert.Recalled.nD Cert.Recalled.τ).loc Cert.Recalled.main_arg2) = m ((c.tc : Thread Cert.Recalled.nD Cert.Recalled.τ).loc Cert.Recalled.main_arg2))
      ∧ r.2.sem = fun _ => 0)

def quiescent_RecalledIdeal [hRecalledIdeal : Cert.RecalledIdeal.Facts] : Prop :=
  ∀ (m : (ℓ : Loc Cert.RecalledIdeal.nD Cert.RecalledIdeal.τ Cert.RecalledIdeal.sig) → Buf (Elt Ideal) ℓ) (g : Dev Cert.RecalledIdeal.nD → PrngReg), Pre_RecalledIdeal m →
    θ_run (Cert.RecalledIdeal.defs (F := Ideal)) (onTc (τ := Cert.RecalledIdeal.τ) (Cert.RecalledIdeal.main (F := Ideal))) ⟨m, fun _ => 0, g⟩ (fun r => (∀ c : Dev Cert.RecalledIdeal.nD,
      r.2.mem ((c.tc : Thread Cert.RecalledIdeal.nD Cert.RecalledIdeal.τ).loc Cert.RecalledIdeal.main_arg0) = m ((c.tc : Thread Cert.RecalledIdeal.nD Cert.RecalledIdeal.τ).loc Cert.RecalledIdeal.main_arg0)
      ∧ r.2.mem ((c.tc : Thread Cert.RecalledIdeal.nD Cert.RecalledIdeal.τ).loc Cert.RecalledIdeal.main_arg1) = m ((c.tc : Thread Cert.RecalledIdeal.nD Cert.RecalledIdeal.τ).loc Cert.RecalledIdeal.main_arg1)
      ∧ r.2.mem ((c.tc : Thread Cert.RecalledIdeal.nD Cert.RecalledIdeal.τ).loc Cert.RecalledIdeal.main_arg2) = m ((c.tc : Thread Cert.RecalledIdeal.nD Cert.RecalledIdeal.τ).loc Cert.RecalledIdeal.main_arg2))
      ∧ r.2.sem = fun _ => 0)

def quiescent_RecalledReferenceIdeal [hRecalledReferenceIdeal : Cert.RecalledReferenceIdeal.Facts] : Prop :=
  ∀ (m : (ℓ : Loc Cert.RecalledReferenceIdeal.nD Cert.RecalledReferenceIdeal.τ Cert.RecalledReferenceIdeal.sig) → Buf (Elt Ideal) ℓ) (g : Dev Cert.RecalledReferenceIdeal.nD → PrngReg), Pre_RecalledReferenceIdeal m →
    θ_run (Cert.RecalledReferenceIdeal.defs (F := Ideal)) (onTc (τ := Cert.RecalledReferenceIdeal.τ) (Cert.RecalledReferenceIdeal.main (F := Ideal))) ⟨m, fun _ => 0, g⟩ (fun r => (∀ c : Dev Cert.RecalledReferenceIdeal.nD,
      r.2.mem ((c.tc : Thread Cert.RecalledReferenceIdeal.nD Cert.RecalledReferenceIdeal.τ).loc Cert.RecalledReferenceIdeal.main_arg0) = m ((c.tc : Thread Cert.RecalledReferenceIdeal.nD Cert.RecalledReferenceIdeal.τ).loc Cert.RecalledReferenceIdeal.main_arg0)
      ∧ r.2.mem ((c.tc : Thread Cert.RecalledReferenceIdeal.nD Cert.RecalledReferenceIdeal.τ).loc Cert.RecalledReferenceIdeal.main_arg1) = m ((c.tc : Thread Cert.RecalledReferenceIdeal.nD Cert.RecalledReferenceIdeal.τ).loc Cert.RecalledReferenceIdeal.main_arg1)
      ∧ r.2.mem ((c.tc : Thread Cert.RecalledReferenceIdeal.nD Cert.RecalledReferenceIdeal.τ).loc Cert.RecalledReferenceIdeal.main_arg2) = m ((c.tc : Thread Cert.RecalledReferenceIdeal.nD Cert.RecalledReferenceIdeal.τ).loc Cert.RecalledReferenceIdeal.main_arg2))
      ∧ r.2.sem = fun _ => 0)

def quiescent_LastNorm [hLastNorm : Cert.LastNorm.Facts] : Prop :=
  ∀ (m : (ℓ : Loc Cert.LastNorm.nD Cert.LastNorm.τ Cert.LastNorm.sig) → Buf (Elt Bits) ℓ) (g : Dev Cert.LastNorm.nD → PrngReg), Pre_LastNorm m →
    θ_run (Cert.LastNorm.defs (F := Bits)) (onTc (τ := Cert.LastNorm.τ) (Cert.LastNorm.main (F := Bits))) ⟨m, fun _ => 0, g⟩ (fun r => (∀ c : Dev Cert.LastNorm.nD,
      r.2.mem ((c.tc : Thread Cert.LastNorm.nD Cert.LastNorm.τ).loc Cert.LastNorm.main_arg0) = m ((c.tc : Thread Cert.LastNorm.nD Cert.LastNorm.τ).loc Cert.LastNorm.main_arg0)
      ∧ r.2.mem ((c.tc : Thread Cert.LastNorm.nD Cert.LastNorm.τ).loc Cert.LastNorm.main_arg1) = m ((c.tc : Thread Cert.LastNorm.nD Cert.LastNorm.τ).loc Cert.LastNorm.main_arg1))
      ∧ r.2.sem = fun _ => 0)

def quiescent_LastNormIdeal [hLastNormIdeal : Cert.LastNormIdeal.Facts] : Prop :=
  ∀ (m : (ℓ : Loc Cert.LastNormIdeal.nD Cert.LastNormIdeal.τ Cert.LastNormIdeal.sig) → Buf (Elt Ideal) ℓ) (g : Dev Cert.LastNormIdeal.nD → PrngReg), Pre_LastNormIdeal m →
    θ_run (Cert.LastNormIdeal.defs (F := Ideal)) (onTc (τ := Cert.LastNormIdeal.τ) (Cert.LastNormIdeal.main (F := Ideal))) ⟨m, fun _ => 0, g⟩ (fun r => (∀ c : Dev Cert.LastNormIdeal.nD,
      r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
      ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1))
      ∧ r.2.sem = fun _ => 0)

def quiescent_LastNormReferenceIdeal [hLastNormReferenceIdeal : Cert.LastNormReferenceIdeal.Facts] : Prop :=
  ∀ (m : (ℓ : Loc Cert.LastNormReferenceIdeal.nD Cert.LastNormReferenceIdeal.τ Cert.LastNormReferenceIdeal.sig) → Buf (Elt Ideal) ℓ) (g : Dev Cert.LastNormReferenceIdeal.nD → PrngReg), Pre_LastNormReferenceIdeal m →
    θ_run (Cert.LastNormReferenceIdeal.defs (F := Ideal)) (onTc (τ := Cert.LastNormReferenceIdeal.τ) (Cert.LastNormReferenceIdeal.main (F := Ideal))) ⟨m, fun _ => 0, g⟩ (fun r => (∀ c : Dev Cert.LastNormReferenceIdeal.nD,
      r.2.mem ((c.tc : Thread Cert.LastNormReferenceIdeal.nD Cert.LastNormReferenceIdeal.τ).loc Cert.LastNormReferenceIdeal.main_arg0) = m ((c.tc : Thread Cert.LastNormReferenceIdeal.nD Cert.LastNormReferenceIdeal.τ).loc Cert.LastNormReferenceIdeal.main_arg0)
      ∧ r.2.mem ((c.tc : Thread Cert.LastNormReferenceIdeal.nD Cert.LastNormReferenceIdeal.τ).loc Cert.LastNormReferenceIdeal.main_arg1) = m ((c.tc : Thread Cert.LastNormReferenceIdeal.nD Cert.LastNormReferenceIdeal.τ).loc Cert.LastNormReferenceIdeal.main_arg1))
      ∧ r.2.sem = fun _ => 0)

def quiescent_Recall [hRecall : Cert.Recall.Facts] : Prop :=
  ∀ (m : (ℓ : Loc Cert.Recall.nD Cert.Recall.τ Cert.Recall.sig) → Buf (Elt Bits) ℓ) (g : Dev Cert.Recall.nD → PrngReg), Pre_Recall m →
    θ_run (Cert.Recall.defs (F := Bits)) (onTc (τ := Cert.Recall.τ) (Cert.Recall.main (F := Bits))) ⟨m, fun _ => 0, g⟩ (fun r => (∀ c : Dev Cert.Recall.nD,
      r.2.mem ((c.tc : Thread Cert.Recall.nD Cert.Recall.τ).loc Cert.Recall.main_arg0) = m ((c.tc : Thread Cert.Recall.nD Cert.Recall.τ).loc Cert.Recall.main_arg0)
      ∧ r.2.mem ((c.tc : Thread Cert.Recall.nD Cert.Recall.τ).loc Cert.Recall.main_arg1) = m ((c.tc : Thread Cert.Recall.nD Cert.Recall.τ).loc Cert.Recall.main_arg1))
      ∧ r.2.sem = fun _ => 0)

def quiescent_RecallIdeal [hRecallIdeal : Cert.RecallIdeal.Facts] : Prop :=
  ∀ (m : (ℓ : Loc Cert.RecallIdeal.nD Cert.RecallIdeal.τ Cert.RecallIdeal.sig) → Buf (Elt Ideal) ℓ) (g : Dev Cert.RecallIdeal.nD → PrngReg), Pre_RecallIdeal m →
    θ_run (Cert.RecallIdeal.defs (F := Ideal)) (onTc (τ := Cert.RecallIdeal.τ) (Cert.RecallIdeal.main (F := Ideal))) ⟨m, fun _ => 0, g⟩ (fun r => (∀ c : Dev Cert.RecallIdeal.nD,
      r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
      ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1))
      ∧ r.2.sem = fun _ => 0)

def quiescent_RecallIdeal_pre_recalls_finite [hRecallIdeal : Cert.RecallIdeal.Facts] [hPre_recalls_finite : Cert.Pre_recalls_finite.Facts] : Prop :=
  ∀ (m : (ℓ : Loc Cert.RecallIdeal.nD Cert.RecallIdeal.τ Cert.RecallIdeal.sig) → Buf (Elt Ideal) ℓ) (g : Dev Cert.RecallIdeal.nD → PrngReg), Pre_RecallIdeal_recalls_finite m →
    θ_run (Cert.RecallIdeal.defs (F := Ideal)) (onTc (τ := Cert.RecallIdeal.τ) (Cert.RecallIdeal.main (F := Ideal))) ⟨m, fun _ => 0, g⟩ (fun r => (∀ c : Dev Cert.RecallIdeal.nD,
      r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
      ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1))
      ∧ r.2.sem = fun _ => 0)

def quiescent_RecallReferenceIdeal [hRecallReferenceIdeal : Cert.RecallReferenceIdeal.Facts] : Prop :=
  ∀ (m : (ℓ : Loc Cert.RecallReferenceIdeal.nD Cert.RecallReferenceIdeal.τ Cert.RecallReferenceIdeal.sig) → Buf (Elt Ideal) ℓ) (g : Dev Cert.RecallReferenceIdeal.nD → PrngReg), Pre_RecallReferenceIdeal m →
    θ_run (Cert.RecallReferenceIdeal.defs (F := Ideal)) (onTc (τ := Cert.RecallReferenceIdeal.τ) (Cert.RecallReferenceIdeal.main (F := Ideal))) ⟨m, fun _ => 0, g⟩ (fun r => (∀ c : Dev Cert.RecallReferenceIdeal.nD,
      r.2.mem ((c.tc : Thread Cert.RecallReferenceIdeal.nD Cert.RecallReferenceIdeal.τ).loc Cert.RecallReferenceIdeal.main_arg0) = m ((c.tc : Thread Cert.RecallReferenceIdeal.nD Cert.RecallReferenceIdeal.τ).loc Cert.RecallReferenceIdeal.main_arg0)
      ∧ r.2.mem ((c.tc : Thread Cert.RecallReferenceIdeal.nD Cert.RecallReferenceIdeal.τ).loc Cert.RecallReferenceIdeal.main_arg1) = m ((c.tc : Thread Cert.RecallReferenceIdeal.nD Cert.RecallReferenceIdeal.τ).loc Cert.RecallReferenceIdeal.main_arg1))
      ∧ r.2.sem = fun _ => 0)

def quiescent_RecallReferenceIdeal_pre_recalls_finite [hRecallReferenceIdeal : Cert.RecallReferenceIdeal.Facts] [hPre_recalls_finite : Cert.Pre_recalls_finite.Facts] : Prop :=
  ∀ (m : (ℓ : Loc Cert.RecallReferenceIdeal.nD Cert.RecallReferenceIdeal.τ Cert.RecallReferenceIdeal.sig) → Buf (Elt Ideal) ℓ) (g : Dev Cert.RecallReferenceIdeal.nD → PrngReg), Pre_RecallReferenceIdeal_recalls_finite m →
    θ_run (Cert.RecallReferenceIdeal.defs (F := Ideal)) (onTc (τ := Cert.RecallReferenceIdeal.τ) (Cert.RecallReferenceIdeal.main (F := Ideal))) ⟨m, fun _ => 0, g⟩ (fun r => (∀ c : Dev Cert.RecallReferenceIdeal.nD,
      r.2.mem ((c.tc : Thread Cert.RecallReferenceIdeal.nD Cert.RecallReferenceIdeal.τ).loc Cert.RecallReferenceIdeal.main_arg0) = m ((c.tc : Thread Cert.RecallReferenceIdeal.nD Cert.RecallReferenceIdeal.τ).loc Cert.RecallReferenceIdeal.main_arg0)
      ∧ r.2.mem ((c.tc : Thread Cert.RecallReferenceIdeal.nD Cert.RecallReferenceIdeal.τ).loc Cert.RecallReferenceIdeal.main_arg1) = m ((c.tc : Thread Cert.RecallReferenceIdeal.nD Cert.RecallReferenceIdeal.τ).loc Cert.RecallReferenceIdeal.main_arg1))
      ∧ r.2.sem = fun _ => 0)

def quiescent_DiffKv [hDiffKv : Cert.DiffKv.Facts] : Prop :=
  ∀ (m : (ℓ : Loc Cert.DiffKv.nD Cert.DiffKv.τ Cert.DiffKv.sig) → Buf (Elt Bits) ℓ) (g : Dev Cert.DiffKv.nD → PrngReg), Pre_DiffKv m →
    θ_run (Cert.DiffKv.defs (F := Bits)) (onTc (τ := Cert.DiffKv.τ) (Cert.DiffKv.main (F := Bits))) ⟨m, fun _ => 0, g⟩ (fun r => (∀ c : Dev Cert.DiffKv.nD,
      r.2.mem ((c.tc : Thread Cert.DiffKv.nD Cert.DiffKv.τ).loc Cert.DiffKv.main_arg0) = m ((c.tc : Thread Cert.DiffKv.nD Cert.DiffKv.τ).loc Cert.DiffKv.main_arg0))
      ∧ r.2.sem = fun _ => 0)

def quiescent_DiffKvIdeal [hDiffKvIdeal : Cert.DiffKvIdeal.Facts] : Prop :=
  ∀ (m : (ℓ : Loc Cert.DiffKvIdeal.nD Cert.DiffKvIdeal.τ Cert.DiffKvIdeal.sig) → Buf (Elt Ideal) ℓ) (g : Dev Cert.DiffKvIdeal.nD → PrngReg), Pre_DiffKvIdeal m →
    θ_run (Cert.DiffKvIdeal.defs (F := Ideal)) (onTc (τ := Cert.DiffKvIdeal.τ) (Cert.DiffKvIdeal.main (F := Ideal))) ⟨m, fun _ => 0, g⟩ (fun r => (∀ c : Dev Cert.DiffKvIdeal.nD,
      r.2.mem ((c.tc : Thread Cert.DiffKvIdeal.nD Cert.DiffKvIdeal.τ).loc Cert.DiffKvIdeal.main_arg0) = m ((c.tc : Thread Cert.DiffKvIdeal.nD Cert.DiffKvIdeal.τ).loc Cert.DiffKvIdeal.main_arg0))
      ∧ r.2.sem = fun _ => 0)

def quiescent_DiffKvReferenceIdeal [hDiffKvReferenceIdeal : Cert.DiffKvReferenceIdeal.Facts] : Prop :=
  ∀ (m : (ℓ : Loc Cert.DiffKvReferenceIdeal.nD Cert.DiffKvReferenceIdeal.τ Cert.DiffKvReferenceIdeal.sig) → Buf (Elt Ideal) ℓ) (g : Dev Cert.DiffKvReferenceIdeal.nD → PrngReg), Pre_DiffKvReferenceIdeal m →
    θ_run (Cert.DiffKvReferenceIdeal.defs (F := Ideal)) (onTc (τ := Cert.DiffKvReferenceIdeal.τ) (Cert.DiffKvReferenceIdeal.main (F := Ideal))) ⟨m, fun _ => 0, g⟩ (fun r => (∀ c : Dev Cert.DiffKvReferenceIdeal.nD,
      r.2.mem ((c.tc : Thread Cert.DiffKvReferenceIdeal.nD Cert.DiffKvReferenceIdeal.τ).loc Cert.DiffKvReferenceIdeal.main_arg0) = m ((c.tc : Thread Cert.DiffKvReferenceIdeal.nD Cert.DiffKvReferenceIdeal.τ).loc Cert.DiffKvReferenceIdeal.main_arg0))
      ∧ r.2.sem = fun _ => 0)

def preserves_Kernel_KernelIdeal : Prop :=
  True

def algebraic_KernelIdeal_ReferenceIdeal_pre_attends_finite [hKernelIdeal : Cert.KernelIdeal.Facts] [hReferenceIdeal : Cert.ReferenceIdeal.Facts] [hPre_attends_finite : Cert.Pre_attends_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attends_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v20) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_InEven_InEvenIdeal : Prop :=
  True

def algebraic_InEvenIdeal_InEvenReferenceIdeal [hInEvenIdeal : Cert.InEvenIdeal.Facts] [hInEvenReferenceIdeal : Cert.InEvenReferenceIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)
      ∧ m' ((c.tc : Thread Cert.InEvenReferenceIdeal.nD Cert.InEvenReferenceIdeal.τ).loc Cert.InEvenReferenceIdeal.main_arg2) = m ((c.tc : Thread Cert.InEvenIdeal.nD Cert.InEvenIdeal.τ).loc Cert.InEvenIdeal.main_arg2)) →
    ∃ (v0 : (c : Dev Cert.InEvenIdeal.nD) → Buf (Elt Ideal) ((c.tc : Thread Cert.InEvenIdeal.nD Cert.InEvenIdeal.τ).loc Cert.InEvenIdeal.main_v2)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v2) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v13) = v0 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1)
          ∧ r.2.mem ((c.tc : Thread Cert.InEvenReferenceIdeal.nD Cert.InEvenReferenceIdeal.τ).loc Cert.InEvenReferenceIdeal.main_arg2) = m' ((c.tc : Thread Cert.InEvenReferenceIdeal.nD Cert.InEvenReferenceIdeal.τ).loc Cert.InEvenReferenceIdeal.main_arg2))

def preserves_InOdd_InOddIdeal : Prop :=
  True

def algebraic_InOddIdeal_InOddReferenceIdeal [hInOddIdeal : Cert.InOddIdeal.Facts] [hInOddReferenceIdeal : Cert.InOddReferenceIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)
      ∧ m' ((c.tc : Thread Cert.InOddReferenceIdeal.nD Cert.InOddReferenceIdeal.τ).loc Cert.InOddReferenceIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v13) = v0 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1)
          ∧ r.2.mem ((c.tc : Thread Cert.InOddReferenceIdeal.nD Cert.InOddReferenceIdeal.τ).loc Cert.InOddReferenceIdeal.main_arg2) = m' ((c.tc : Thread Cert.InOddReferenceIdeal.nD Cert.InOddReferenceIdeal.τ).loc Cert.InOddReferenceIdeal.main_arg2))

def preserves_MemQuery_MemQueryIdeal : Prop :=
  True

def algebraic_MemQueryIdeal_MemQueryReferenceIdeal [hMemQueryIdeal : Cert.MemQueryIdeal.Facts] [hMemQueryReferenceIdeal : Cert.MemQueryReferenceIdeal.Facts] : Prop :=
  ∀ (m : (ℓ : Loc Cert.MemQueryIdeal.nD Cert.MemQueryIdeal.τ Cert.MemQueryIdeal.sig) → Buf (Elt Ideal) ℓ) (g : Dev Cert.MemQueryIdeal.nD → PrngReg)
    (m' : (ℓ : Loc Cert.MemQueryReferenceIdeal.nD Cert.MemQueryReferenceIdeal.τ Cert.MemQueryReferenceIdeal.sig) → Buf (Elt Ideal) ℓ) (g' : Dev Cert.MemQueryReferenceIdeal.nD → PrngReg), Pre_MemQueryIdeal m →
    (∀ c : Dev Cert.MemQueryIdeal.nD,
      m' ((c.tc : Thread Cert.MemQueryReferenceIdeal.nD Cert.MemQueryReferenceIdeal.τ).loc Cert.MemQueryReferenceIdeal.main_arg0) = m ((c.tc : Thread Cert.MemQueryIdeal.nD Cert.MemQueryIdeal.τ).loc Cert.MemQueryIdeal.main_arg0)
      ∧ m' ((c.tc : Thread Cert.MemQueryReferenceIdeal.nD Cert.MemQueryReferenceIdeal.τ).loc Cert.MemQueryReferenceIdeal.main_arg1) = m ((c.tc : Thread Cert.MemQueryIdeal.nD Cert.MemQueryIdeal.τ).loc Cert.MemQueryIdeal.main_arg1)
      ∧ m' ((c.tc : Thread Cert.MemQueryReferenceIdeal.nD Cert.MemQueryReferenceIdeal.τ).loc Cert.MemQueryReferenceIdeal.main_arg2) = m ((c.tc : Thread Cert.MemQueryIdeal.nD Cert.MemQueryIdeal.τ).loc Cert.MemQueryIdeal.main_arg2)) →
    ∃ (v0 : (c : Dev Cert.MemQueryIdeal.nD) → Buf (Elt Ideal) ((c.tc : Thread Cert.MemQueryIdeal.nD Cert.MemQueryIdeal.τ).loc Cert.MemQueryIdeal.main_v2)),
      θ_run (Cert.MemQueryIdeal.defs (F := Ideal)) (onTc (τ := Cert.MemQueryIdeal.τ) (Cert.MemQueryIdeal.main (F := Ideal))) ⟨m, fun _ => 0, g⟩ (fun r => ∀ c : Dev Cert.MemQueryIdeal.nD,
          r.2.mem ((c.tc : Thread Cert.MemQueryIdeal.nD Cert.MemQueryIdeal.τ).loc Cert.MemQueryIdeal.main_v2) = v0 c
          ∧ r.2.mem ((c.tc : Thread Cert.MemQueryIdeal.nD Cert.MemQueryIdeal.τ).loc Cert.MemQueryIdeal.main_arg0) = m ((c.tc : Thread Cert.MemQueryIdeal.nD Cert.MemQueryIdeal.τ).loc Cert.MemQueryIdeal.main_arg0)
          ∧ r.2.mem ((c.tc : Thread Cert.MemQueryIdeal.nD Cert.MemQueryIdeal.τ).loc Cert.MemQueryIdeal.main_arg1) = m ((c.tc : Thread Cert.MemQueryIdeal.nD Cert.MemQueryIdeal.τ).loc Cert.MemQueryIdeal.main_arg1)
          ∧ r.2.mem ((c.tc : Thread Cert.MemQueryIdeal.nD Cert.MemQueryIdeal.τ).loc Cert.MemQueryIdeal.main_arg2) = m ((c.tc : Thread Cert.MemQueryIdeal.nD Cert.MemQueryIdeal.τ).loc Cert.MemQueryIdeal.main_arg2))
      ∧ θ_run (Cert.MemQueryReferenceIdeal.defs (F := Ideal)) (onTc (τ := Cert.MemQueryReferenceIdeal.τ) (Cert.MemQueryReferenceIdeal.main (F := Ideal))) ⟨m', fun _ => 0, g'⟩ (fun r => ∀ c : Dev Cert.MemQueryReferenceIdeal.nD,
          r.2.mem ((c.tc : Thread Cert.MemQueryReferenceIdeal.nD Cert.MemQueryReferenceIdeal.τ).loc Cert.MemQueryReferenceIdeal.main_v13) = v0 c
          ∧ r.2.mem ((c.tc : Thread Cert.MemQueryReferenceIdeal.nD Cert.MemQueryReferenceIdeal.τ).loc Cert.MemQueryReferenceIdeal.main_arg0) = m' ((c.tc : Thread Cert.MemQueryReferenceIdeal.nD Cert.MemQueryReferenceIdeal.τ).loc Cert.MemQueryReferenceIdeal.main_arg0)
          ∧ r.2.mem ((c.tc : Thread Cert.MemQueryReferenceIdeal.nD Cert.MemQueryReferenceIdeal.τ).loc Cert.MemQueryReferenceIdeal.main_arg1) = m' ((c.tc : Thread Cert.MemQueryReferenceIdeal.nD Cert.MemQueryReferenceIdeal.τ).loc Cert.MemQueryReferenceIdeal.main_arg1)
          ∧ r.2.mem ((c.tc : Thread Cert.MemQueryReferenceIdeal.nD Cert.MemQueryReferenceIdeal.τ).loc Cert.MemQueryReferenceIdeal.main_arg2) = m' ((c.tc : Thread Cert.MemQueryReferenceIdeal.nD Cert.MemQueryReferenceIdeal.τ).loc Cert.MemQueryReferenceIdeal.main_arg2))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v4)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v1) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1))

def preserves_Mixed_MixedIdeal : Prop :=
  True

def algebraic_MixedIdeal_MixedReferenceIdeal [hMixedIdeal : Cert.MixedIdeal.Facts] [hMixedReferenceIdeal : Cert.MixedReferenceIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedReferenceIdeal.nD Cert.MixedReferenceIdeal.τ Cert.MixedReferenceIdeal.sig) → Buf (Elt Ideal) ℓ) (g' : Dev Cert.MixedReferenceIdeal.nD → PrngReg), Pre_MixedIdeal m →
    (∀ c : Dev Cert.MixedIdeal.nD,
      m' ((c.tc : Thread Cert.MixedReferenceIdeal.nD Cert.MixedReferenceIdeal.τ).loc Cert.MixedReferenceIdeal.main_arg0) = m ((c.tc : Thread Cert.MixedIdeal.nD Cert.MixedIdeal.τ).loc Cert.MixedIdeal.main_arg0)
      ∧ m' ((c.tc : Thread Cert.MixedReferenceIdeal.nD Cert.MixedReferenceIdeal.τ).loc Cert.MixedReferenceIdeal.main_arg1) = m ((c.tc : Thread Cert.MixedIdeal.nD Cert.MixedIdeal.τ).loc Cert.MixedIdeal.main_arg1)
      ∧ m' ((c.tc : Thread Cert.MixedReferenceIdeal.nD Cert.MixedReferenceIdeal.τ).loc Cert.MixedReferenceIdeal.main_arg2) = m ((c.tc : Thread Cert.MixedIdeal.nD Cert.MixedIdeal.τ).loc Cert.MixedIdeal.main_arg2)
      ∧ m' ((c.tc : Thread Cert.MixedReferenceIdeal.nD Cert.MixedReferenceIdeal.τ).loc Cert.MixedReferenceIdeal.main_arg3) = m ((c.tc : Thread Cert.MixedIdeal.nD Cert.MixedIdeal.τ).loc Cert.MixedIdeal.main_arg3)) →
    ∃ (v0 : (c : Dev Cert.MixedIdeal.nD) → Buf (Elt Ideal) ((c.tc : Thread Cert.MixedIdeal.nD Cert.MixedIdeal.τ).loc Cert.MixedIdeal.main_v3)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v3) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3))
      ∧ θ_run (Cert.MixedReferenceIdeal.defs (F := Ideal)) (onTc (τ := Cert.MixedReferenceIdeal.τ) (Cert.MixedReferenceIdeal.main (F := Ideal))) ⟨m', fun _ => 0, g'⟩ (fun r => ∀ c : Dev Cert.MixedReferenceIdeal.nD,
          r.2.mem ((c.tc : Thread Cert.MixedReferenceIdeal.nD Cert.MixedReferenceIdeal.τ).loc Cert.MixedReferenceIdeal.main_v2) = v0 c
          ∧ r.2.mem ((c.tc : Thread Cert.MixedReferenceIdeal.nD Cert.MixedReferenceIdeal.τ).loc Cert.MixedReferenceIdeal.main_arg0) = m' ((c.tc : Thread Cert.MixedReferenceIdeal.nD Cert.MixedReferenceIdeal.τ).loc Cert.MixedReferenceIdeal.main_arg0)
          ∧ r.2.mem ((c.tc : Thread Cert.MixedReferenceIdeal.nD Cert.MixedReferenceIdeal.τ).loc Cert.MixedReferenceIdeal.main_arg1) = m' ((c.tc : Thread Cert.MixedReferenceIdeal.nD Cert.MixedReferenceIdeal.τ).loc Cert.MixedReferenceIdeal.main_arg1)
          ∧ r.2.mem ((c.tc : Thread Cert.MixedReferenceIdeal.nD Cert.MixedReferenceIdeal.τ).loc Cert.MixedReferenceIdeal.main_arg2) = m' ((c.tc : Thread Cert.MixedReferenceIdeal.nD Cert.MixedReferenceIdeal.τ).loc Cert.MixedReferenceIdeal.main_arg2)
          ∧ r.2.mem ((c.tc : Thread Cert.MixedReferenceIdeal.nD Cert.MixedReferenceIdeal.τ).loc Cert.MixedReferenceIdeal.main_arg3) = m' ((c.tc : Thread Cert.MixedReferenceIdeal.nD Cert.MixedReferenceIdeal.τ).loc Cert.MixedReferenceIdeal.main_arg3))

def preserves_Recalled_RecalledIdeal : Prop :=
  True

def algebraic_RecalledIdeal_RecalledReferenceIdeal [hRecalledIdeal : Cert.RecalledIdeal.Facts] [hRecalledReferenceIdeal : Cert.RecalledReferenceIdeal.Facts] : Prop :=
  ∀ (m : (ℓ : Loc Cert.RecalledIdeal.nD Cert.RecalledIdeal.τ Cert.RecalledIdeal.sig) → Buf (Elt Ideal) ℓ) (g : Dev Cert.RecalledIdeal.nD → PrngReg)
    (m' : (ℓ : Loc Cert.RecalledReferenceIdeal.nD Cert.RecalledReferenceIdeal.τ Cert.RecalledReferenceIdeal.sig) → Buf (Elt Ideal) ℓ) (g' : Dev Cert.RecalledReferenceIdeal.nD → PrngReg), Pre_RecalledIdeal m →
    (∀ c : Dev Cert.RecalledIdeal.nD,
      m' ((c.tc : Thread Cert.RecalledReferenceIdeal.nD Cert.RecalledReferenceIdeal.τ).loc Cert.RecalledReferenceIdeal.main_arg0) = m ((c.tc : Thread Cert.RecalledIdeal.nD Cert.RecalledIdeal.τ).loc Cert.RecalledIdeal.main_arg0)
      ∧ m' ((c.tc : Thread Cert.RecalledReferenceIdeal.nD Cert.RecalledReferenceIdeal.τ).loc Cert.RecalledReferenceIdeal.main_arg1) = m ((c.tc : Thread Cert.RecalledIdeal.nD Cert.RecalledIdeal.τ).loc Cert.RecalledIdeal.main_arg1)
      ∧ m' ((c.tc : Thread Cert.RecalledReferenceIdeal.nD Cert.RecalledReferenceIdeal.τ).loc Cert.RecalledReferenceIdeal.main_arg2) = m ((c.tc : Thread Cert.RecalledIdeal.nD Cert.RecalledIdeal.τ).loc Cert.RecalledIdeal.main_arg2)) →
    ∃ (v0 : (c : Dev Cert.RecalledIdeal.nD) → Buf (Elt Ideal) ((c.tc : Thread Cert.RecalledIdeal.nD Cert.RecalledIdeal.τ).loc Cert.RecalledIdeal.main_v1)),
      θ_run (Cert.RecalledIdeal.defs (F := Ideal)) (onTc (τ := Cert.RecalledIdeal.τ) (Cert.RecalledIdeal.main (F := Ideal))) ⟨m, fun _ => 0, g⟩ (fun r => ∀ c : Dev Cert.RecalledIdeal.nD,
          r.2.mem ((c.tc : Thread Cert.RecalledIdeal.nD Cert.RecalledIdeal.τ).loc Cert.RecalledIdeal.main_v1) = v0 c
          ∧ r.2.mem ((c.tc : Thread Cert.RecalledIdeal.nD Cert.RecalledIdeal.τ).loc Cert.RecalledIdeal.main_arg0) = m ((c.tc : Thread Cert.RecalledIdeal.nD Cert.RecalledIdeal.τ).loc Cert.RecalledIdeal.main_arg0)
          ∧ r.2.mem ((c.tc : Thread Cert.RecalledIdeal.nD Cert.RecalledIdeal.τ).loc Cert.RecalledIdeal.main_arg1) = m ((c.tc : Thread Cert.RecalledIdeal.nD Cert.RecalledIdeal.τ).loc Cert.RecalledIdeal.main_arg1)
          ∧ r.2.mem ((c.tc : Thread Cert.RecalledIdeal.nD Cert.RecalledIdeal.τ).loc Cert.RecalledIdeal.main_arg2) = m ((c.tc : Thread Cert.RecalledIdeal.nD Cert.RecalledIdeal.τ).loc Cert.RecalledIdeal.main_arg2))
      ∧ θ_run (Cert.RecalledReferenceIdeal.defs (F := Ideal)) (onTc (τ := Cert.RecalledReferenceIdeal.τ) (Cert.RecalledReferenceIdeal.main (F := Ideal))) ⟨m', fun _ => 0, g'⟩ (fun r => ∀ c : Dev Cert.RecalledReferenceIdeal.nD,
          r.2.mem ((c.tc : Thread Cert.RecalledReferenceIdeal.nD Cert.RecalledReferenceIdeal.τ).loc Cert.RecalledReferenceIdeal.main_v1) = v0 c
          ∧ r.2.mem ((c.tc : Thread Cert.RecalledReferenceIdeal.nD Cert.RecalledReferenceIdeal.τ).loc Cert.RecalledReferenceIdeal.main_arg0) = m' ((c.tc : Thread Cert.RecalledReferenceIdeal.nD Cert.RecalledReferenceIdeal.τ).loc Cert.RecalledReferenceIdeal.main_arg0)
          ∧ r.2.mem ((c.tc : Thread Cert.RecalledReferenceIdeal.nD Cert.RecalledReferenceIdeal.τ).loc Cert.RecalledReferenceIdeal.main_arg1) = m' ((c.tc : Thread Cert.RecalledReferenceIdeal.nD Cert.RecalledReferenceIdeal.τ).loc Cert.RecalledReferenceIdeal.main_arg1)
          ∧ r.2.mem ((c.tc : Thread Cert.RecalledReferenceIdeal.nD Cert.RecalledReferenceIdeal.τ).loc Cert.RecalledReferenceIdeal.main_arg2) = m' ((c.tc : Thread Cert.RecalledReferenceIdeal.nD Cert.RecalledReferenceIdeal.τ).loc Cert.RecalledReferenceIdeal.main_arg2))

def preserves_LastNorm_LastNormIdeal : Prop :=
  True

def algebraic_LastNormIdeal_LastNormReferenceIdeal [hLastNormIdeal : Cert.LastNormIdeal.Facts] [hLastNormReferenceIdeal : Cert.LastNormReferenceIdeal.Facts] : Prop :=
  ∀ (m : (ℓ : Loc Cert.LastNormIdeal.nD Cert.LastNormIdeal.τ Cert.LastNormIdeal.sig) → Buf (Elt Ideal) ℓ) (g : Dev Cert.LastNormIdeal.nD → PrngReg)
    (m' : (ℓ : Loc Cert.LastNormReferenceIdeal.nD Cert.LastNormReferenceIdeal.τ Cert.LastNormReferenceIdeal.sig) → Buf (Elt Ideal) ℓ) (g' : Dev Cert.LastNormReferenceIdeal.nD → PrngReg), Pre_LastNormIdeal m →
    (∀ c : Dev Cert.LastNormIdeal.nD,
      m' ((c.tc : Thread Cert.LastNormReferenceIdeal.nD Cert.LastNormReferenceIdeal.τ).loc Cert.LastNormReferenceIdeal.main_arg0) = m ((c.tc : Thread Cert.LastNormIdeal.nD Cert.LastNormIdeal.τ).loc Cert.LastNormIdeal.main_arg0)
      ∧ m' ((c.tc : Thread Cert.LastNormReferenceIdeal.nD Cert.LastNormReferenceIdeal.τ).loc Cert.LastNormReferenceIdeal.main_arg1) = m ((c.tc : Thread Cert.LastNormIdeal.nD Cert.LastNormIdeal.τ).loc Cert.LastNormIdeal.main_arg1)) →
    ∃ (v0 : (c : Dev Cert.LastNormIdeal.nD) → Buf (Elt Ideal) ((c.tc : Thread Cert.LastNormIdeal.nD Cert.LastNormIdeal.τ).loc Cert.LastNormIdeal.main_v1)),
      θ_run (Cert.LastNormIdeal.defs (F := Ideal)) (onTc (τ := Cert.LastNormIdeal.τ) (Cert.LastNormIdeal.main (F := Ideal))) ⟨m, fun _ => 0, g⟩ (fun r => ∀ c : Dev Cert.LastNormIdeal.nD,
          r.2.mem ((c.tc : Thread Cert.LastNormIdeal.nD Cert.LastNormIdeal.τ).loc Cert.LastNormIdeal.main_v1) = v0 c
          ∧ r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
          ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1))
      ∧ θ_run (Cert.LastNormReferenceIdeal.defs (F := Ideal)) (onTc (τ := Cert.LastNormReferenceIdeal.τ) (Cert.LastNormReferenceIdeal.main (F := Ideal))) ⟨m', fun _ => 0, g'⟩ (fun r => ∀ c : Dev Cert.LastNormReferenceIdeal.nD,
          r.2.mem ((c.tc : Thread Cert.LastNormReferenceIdeal.nD Cert.LastNormReferenceIdeal.τ).loc Cert.LastNormReferenceIdeal.main_v12) = v0 c
          ∧ r.2.mem ((c.tc : Thread Cert.LastNormReferenceIdeal.nD Cert.LastNormReferenceIdeal.τ).loc Cert.LastNormReferenceIdeal.main_arg0) = m' ((c.tc : Thread Cert.LastNormReferenceIdeal.nD Cert.LastNormReferenceIdeal.τ).loc Cert.LastNormReferenceIdeal.main_arg0)
          ∧ r.2.mem ((c.tc : Thread Cert.LastNormReferenceIdeal.nD Cert.LastNormReferenceIdeal.τ).loc Cert.LastNormReferenceIdeal.main_arg1) = m' ((c.tc : Thread Cert.LastNormReferenceIdeal.nD Cert.LastNormReferenceIdeal.τ).loc Cert.LastNormReferenceIdeal.main_arg1))

def preserves_Recall_RecallIdeal : Prop :=
  True

def algebraic_RecallIdeal_RecallReferenceIdeal_pre_recalls_finite [hRecallIdeal : Cert.RecallIdeal.Facts] [hRecallReferenceIdeal : Cert.RecallReferenceIdeal.Facts] [hPre_recalls_finite : Cert.Pre_recalls_finite.Facts] : Prop :=
  ∀ (m : (ℓ : Loc Cert.RecallIdeal.nD Cert.RecallIdeal.τ Cert.RecallIdeal.sig) → Buf (Elt Ideal) ℓ) (g : Dev Cert.RecallIdeal.nD → PrngReg)
    (m' : (ℓ : Loc Cert.RecallReferenceIdeal.nD Cert.RecallReferenceIdeal.τ Cert.RecallReferenceIdeal.sig) → Buf (Elt Ideal) ℓ) (g' : Dev Cert.RecallReferenceIdeal.nD → PrngReg), Pre_RecallIdeal_recalls_finite m →
    (∀ c : Dev Cert.RecallIdeal.nD,
      m' ((c.tc : Thread Cert.RecallReferenceIdeal.nD Cert.RecallReferenceIdeal.τ).loc Cert.RecallReferenceIdeal.main_arg0) = m ((c.tc : Thread Cert.RecallIdeal.nD Cert.RecallIdeal.τ).loc Cert.RecallIdeal.main_arg0)
      ∧ m' ((c.tc : Thread Cert.RecallReferenceIdeal.nD Cert.RecallReferenceIdeal.τ).loc Cert.RecallReferenceIdeal.main_arg1) = m ((c.tc : Thread Cert.RecallIdeal.nD Cert.RecallIdeal.τ).loc Cert.RecallIdeal.main_arg1)) →
    ∃ (v0 : (c : Dev Cert.RecallIdeal.nD) → Buf (Elt Ideal) ((c.tc : Thread Cert.RecallIdeal.nD Cert.RecallIdeal.τ).loc Cert.RecallIdeal.main_v0)),
      θ_run (Cert.RecallIdeal.defs (F := Ideal)) (onTc (τ := Cert.RecallIdeal.τ) (Cert.RecallIdeal.main (F := Ideal))) ⟨m, fun _ => 0, g⟩ (fun r => ∀ c : Dev Cert.RecallIdeal.nD,
          r.2.mem ((c.tc : Thread Cert.RecallIdeal.nD Cert.RecallIdeal.τ).loc Cert.RecallIdeal.main_v0) = v0 c
          ∧ r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
          ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1))
      ∧ θ_run (Cert.RecallReferenceIdeal.defs (F := Ideal)) (onTc (τ := Cert.RecallReferenceIdeal.τ) (Cert.RecallReferenceIdeal.main (F := Ideal))) ⟨m', fun _ => 0, g'⟩ (fun r => ∀ c : Dev Cert.RecallReferenceIdeal.nD,
          r.2.mem ((c.tc : Thread Cert.RecallReferenceIdeal.nD Cert.RecallReferenceIdeal.τ).loc Cert.RecallReferenceIdeal.main_v22) = v0 c
          ∧ r.2.mem ((c.tc : Thread Cert.RecallReferenceIdeal.nD Cert.RecallReferenceIdeal.τ).loc Cert.RecallReferenceIdeal.main_arg0) = m' ((c.tc : Thread Cert.RecallReferenceIdeal.nD Cert.RecallReferenceIdeal.τ).loc Cert.RecallReferenceIdeal.main_arg0)
          ∧ r.2.mem ((c.tc : Thread Cert.RecallReferenceIdeal.nD Cert.RecallReferenceIdeal.τ).loc Cert.RecallReferenceIdeal.main_arg1) = m' ((c.tc : Thread Cert.RecallReferenceIdeal.nD Cert.RecallReferenceIdeal.τ).loc Cert.RecallReferenceIdeal.main_arg1))

def preserves_DiffKv_DiffKvIdeal : Prop :=
  True

def algebraic_DiffKvIdeal_DiffKvReferenceIdeal [hDiffKvIdeal : Cert.DiffKvIdeal.Facts] [hDiffKvReferenceIdeal : Cert.DiffKvReferenceIdeal.Facts] : Prop :=
  ∀ (m : (ℓ : Loc Cert.DiffKvIdeal.nD Cert.DiffKvIdeal.τ Cert.DiffKvIdeal.sig) → Buf (Elt Ideal) ℓ) (g : Dev Cert.DiffKvIdeal.nD → PrngReg)
    (m' : (ℓ : Loc Cert.DiffKvReferenceIdeal.nD Cert.DiffKvReferenceIdeal.τ Cert.DiffKvReferenceIdeal.sig) → Buf (Elt Ideal) ℓ) (g' : Dev Cert.DiffKvReferenceIdeal.nD → PrngReg), Pre_DiffKvIdeal m →
    (∀ c : Dev Cert.DiffKvIdeal.nD,
      m' ((c.tc : Thread Cert.DiffKvReferenceIdeal.nD Cert.DiffKvReferenceIdeal.τ).loc Cert.DiffKvReferenceIdeal.main_arg0) = m ((c.tc : Thread Cert.DiffKvIdeal.nD Cert.DiffKvIdeal.τ).loc Cert.DiffKvIdeal.main_arg0)) →
    ∃ (v0 : (c : Dev Cert.DiffKvIdeal.nD) → Buf (Elt Ideal) ((c.tc : Thread Cert.DiffKvIdeal.nD Cert.DiffKvIdeal.τ).loc Cert.DiffKvIdeal.main_v24)),
      θ_run (Cert.DiffKvIdeal.defs (F := Ideal)) (onTc (τ := Cert.DiffKvIdeal.τ) (Cert.DiffKvIdeal.main (F := Ideal))) ⟨m, fun _ => 0, g⟩ (fun r => ∀ c : Dev Cert.DiffKvIdeal.nD,
          r.2.mem ((c.tc : Thread Cert.DiffKvIdeal.nD Cert.DiffKvIdeal.τ).loc Cert.DiffKvIdeal.main_v24) = v0 c
          ∧ r.2.mem ((c.tc : Thread Cert.DiffKvIdeal.nD Cert.DiffKvIdeal.τ).loc Cert.DiffKvIdeal.main_arg0) = m ((c.tc : Thread Cert.DiffKvIdeal.nD Cert.DiffKvIdeal.τ).loc Cert.DiffKvIdeal.main_arg0))
      ∧ θ_run (Cert.DiffKvReferenceIdeal.defs (F := Ideal)) (onTc (τ := Cert.DiffKvReferenceIdeal.τ) (Cert.DiffKvReferenceIdeal.main (F := Ideal))) ⟨m', fun _ => 0, g'⟩ (fun r => ∀ c : Dev Cert.DiffKvReferenceIdeal.nD,
          r.2.mem ((c.tc : Thread Cert.DiffKvReferenceIdeal.nD Cert.DiffKvReferenceIdeal.τ).loc Cert.DiffKvReferenceIdeal.main_v69) = v0 c
          ∧ r.2.mem ((c.tc : Thread Cert.DiffKvReferenceIdeal.nD Cert.DiffKvReferenceIdeal.τ).loc Cert.DiffKvReferenceIdeal.main_arg0) = m' ((c.tc : Thread Cert.DiffKvReferenceIdeal.nD Cert.DiffKvReferenceIdeal.τ).loc Cert.DiffKvReferenceIdeal.main_arg0))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInEven : Cert.InEven.Facts) (hInEvenIdeal : Cert.InEvenIdeal.Facts) (hInEvenReferenceIdeal : Cert.InEvenReferenceIdeal.Facts) (hInOdd : Cert.InOdd.Facts) (hInOddIdeal : Cert.InOddIdeal.Facts) (hInOddReferenceIdeal : Cert.InOddReferenceIdeal.Facts) (hMemQuery : Cert.MemQuery.Facts) (hMemQueryIdeal : Cert.MemQueryIdeal.Facts) (hMemQueryReferenceIdeal : Cert.MemQueryReferenceIdeal.Facts) (hMemory : Cert.Memory.Facts) (hMemoryIdeal : Cert.MemoryIdeal.Facts) (hMemoryReferenceIdeal : Cert.MemoryReferenceIdeal.Facts) (hMixed : Cert.Mixed.Facts) (hMixedIdeal : Cert.MixedIdeal.Facts) (hMixedReferenceIdeal : Cert.MixedReferenceIdeal.Facts) (hRecalled : Cert.Recalled.Facts) (hRecalledIdeal : Cert.RecalledIdeal.Facts) (hRecalledReferenceIdeal : Cert.RecalledReferenceIdeal.Facts) (hLastNorm : Cert.LastNorm.Facts) (hLastNormIdeal : Cert.LastNormIdeal.Facts) (hLastNormReferenceIdeal : Cert.LastNormReferenceIdeal.Facts) (hRecall : Cert.Recall.Facts) (hRecallIdeal : Cert.RecallIdeal.Facts) (hRecallReferenceIdeal : Cert.RecallReferenceIdeal.Facts) (hDiffKv : Cert.DiffKv.Facts) (hDiffKvIdeal : Cert.DiffKvIdeal.Facts) (hDiffKvReferenceIdeal : Cert.DiffKvReferenceIdeal.Facts) (hPre_attends_finite : Cert.Pre_attends_finite.Facts) (hPre_recalls_finite : Cert.Pre_recalls_finite.Facts),
    quiescent_Kernel (hKernel := hKernel)
    ∧ quiescent_KernelIdeal (hKernelIdeal := hKernelIdeal)
    ∧ quiescent_KernelIdeal_pre_attends_finite (hKernelIdeal := hKernelIdeal) (hPre_attends_finite := hPre_attends_finite)
    ∧ quiescent_ReferenceIdeal (hReferenceIdeal := hReferenceIdeal)
    ∧ quiescent_ReferenceIdeal_pre_attends_finite (hReferenceIdeal := hReferenceIdeal) (hPre_attends_finite := hPre_attends_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InEven (hInEven := hInEven)
    ∧ quiescent_InEvenIdeal (hInEvenIdeal := hInEvenIdeal)
    ∧ quiescent_InEvenReferenceIdeal (hInEvenReferenceIdeal := hInEvenReferenceIdeal)
    ∧ quiescent_InOdd (hInOdd := hInOdd)
    ∧ quiescent_InOddIdeal (hInOddIdeal := hInOddIdeal)
    ∧ quiescent_InOddReferenceIdeal (hInOddReferenceIdeal := hInOddReferenceIdeal)
    ∧ quiescent_MemQuery (hMemQuery := hMemQuery)
    ∧ quiescent_MemQueryIdeal (hMemQueryIdeal := hMemQueryIdeal)
    ∧ quiescent_MemQueryReferenceIdeal (hMemQueryReferenceIdeal := hMemQueryReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Mixed (hMixed := hMixed)
    ∧ quiescent_MixedIdeal (hMixedIdeal := hMixedIdeal)
    ∧ quiescent_MixedReferenceIdeal (hMixedReferenceIdeal := hMixedReferenceIdeal)
    ∧ quiescent_Recalled (hRecalled := hRecalled)
    ∧ quiescent_RecalledIdeal (hRecalledIdeal := hRecalledIdeal)
    ∧ quiescent_RecalledReferenceIdeal (hRecalledReferenceIdeal := hRecalledReferenceIdeal)
    ∧ quiescent_LastNorm (hLastNorm := hLastNorm)
    ∧ quiescent_LastNormIdeal (hLastNormIdeal := hLastNormIdeal)
    ∧ quiescent_LastNormReferenceIdeal (hLastNormReferenceIdeal := hLastNormReferenceIdeal)
    ∧ quiescent_Recall (hRecall := hRecall)
    ∧ quiescent_RecallIdeal (hRecallIdeal := hRecallIdeal)
    ∧ quiescent_RecallIdeal_pre_recalls_finite (hRecallIdeal := hRecallIdeal) (hPre_recalls_finite := hPre_recalls_finite)
    ∧ quiescent_RecallReferenceIdeal (hRecallReferenceIdeal := hRecallReferenceIdeal)
    ∧ quiescent_RecallReferenceIdeal_pre_recalls_finite (hRecallReferenceIdeal := hRecallReferenceIdeal) (hPre_recalls_finite := hPre_recalls_finite)
    ∧ quiescent_DiffKv (hDiffKv := hDiffKv)
    ∧ quiescent_DiffKvIdeal (hDiffKvIdeal := hDiffKvIdeal)
    ∧ quiescent_DiffKvReferenceIdeal (hDiffKvReferenceIdeal := hDiffKvReferenceIdeal)
    ∧ preserves_Kernel_KernelIdeal
    ∧ algebraic_KernelIdeal_ReferenceIdeal_pre_attends_finite (hKernelIdeal := hKernelIdeal) (hReferenceIdeal := hReferenceIdeal) (hPre_attends_finite := hPre_attends_finite)
    ∧ preserves_Ffn_FfnIdeal
    ∧ algebraic_FfnIdeal_FfnReferenceIdeal (hFfnIdeal := hFfnIdeal) (hFfnReferenceIdeal := hFfnReferenceIdeal)
    ∧ preserves_InEven_InEvenIdeal
    ∧ algebraic_InEvenIdeal_InEvenReferenceIdeal (hInEvenIdeal := hInEvenIdeal) (hInEvenReferenceIdeal := hInEvenReferenceIdeal)
    ∧ preserves_InOdd_InOddIdeal
    ∧ algebraic_InOddIdeal_InOddReferenceIdeal (hInOddIdeal := hInOddIdeal) (hInOddReferenceIdeal := hInOddReferenceIdeal)
    ∧ preserves_MemQuery_MemQueryIdeal
    ∧ algebraic_MemQueryIdeal_MemQueryReferenceIdeal (hMemQueryIdeal := hMemQueryIdeal) (hMemQueryReferenceIdeal := hMemQueryReferenceIdeal)
    ∧ preserves_Memory_MemoryIdeal
    ∧ algebraic_MemoryIdeal_MemoryReferenceIdeal (hMemoryIdeal := hMemoryIdeal) (hMemoryReferenceIdeal := hMemoryReferenceIdeal)
    ∧ preserves_Mixed_MixedIdeal
    ∧ algebraic_MixedIdeal_MixedReferenceIdeal (hMixedIdeal := hMixedIdeal) (hMixedReferenceIdeal := hMixedReferenceIdeal)
    ∧ preserves_Recalled_RecalledIdeal
    ∧ algebraic_RecalledIdeal_RecalledReferenceIdeal (hRecalledIdeal := hRecalledIdeal) (hRecalledReferenceIdeal := hRecalledReferenceIdeal)
    ∧ preserves_LastNorm_LastNormIdeal
    ∧ algebraic_LastNormIdeal_LastNormReferenceIdeal (hLastNormIdeal := hLastNormIdeal) (hLastNormReferenceIdeal := hLastNormReferenceIdeal)
    ∧ preserves_Recall_RecallIdeal
    ∧ algebraic_RecallIdeal_RecallReferenceIdeal_pre_recalls_finite (hRecallIdeal := hRecallIdeal) (hRecallReferenceIdeal := hRecallReferenceIdeal) (hPre_recalls_finite := hPre_recalls_finite)
    ∧ preserves_DiffKv_DiffKvIdeal
    ∧ algebraic_DiffKvIdeal_DiffKvReferenceIdeal (hDiffKvIdeal := hDiffKvIdeal) (hDiffKvReferenceIdeal := hDiffKvReferenceIdeal)
-- ==== Pre_attends_finite.lean ====
abbrev S16384x3584 : Shape := ⟨2, ![16384, 3584]⟩
abbrev S16384x1024 : Shape := ⟨2, ![16384, 1024]⟩
abbrev S4x64 : Shape := ⟨2, ![4, 64]⟩
abbrev S128 : Shape := ⟨1, ![128]⟩
abbrev S16384x512 : Shape := ⟨2, ![16384, 512]⟩
abbrev S_ : Shape := ⟨0, ![]⟩

class Facts : Prop where
  slices_S16384x3584_S16384x512_0_2048 : S16384x3584.Slices ![0, 2048] S16384x512
  bcast_S_S16384x512 : S_.BroadcastsInDim S16384x512 (![] : Fin 0 → Fin S16384x512.rank)
  bcast_S_S16384x1024 : S_.BroadcastsInDim S16384x1024 (![] : Fin 0 → Fin S16384x1024.rank)
  bcast_S_S4x64 : S_.BroadcastsInDim S4x64 (![] : Fin 0 → Fin S4x64.rank)

variable [Facts]

def fn {F : FTy → Type} [FloatOps F] (main_arg0 : FVec F S16384x3584 .f32) (main_arg1 : FVec F S16384x1024 .f32) (main_arg2 : FVec F S4x64 .f32) (main_arg3 : FVec F S128 .f32) : IVec S16384x512 1 × IVec S16384x1024 1 × IVec S4x64 1 :=
  let main_v0 : FVec F S16384x512 .f32 := (extractStridedSlice S16384x512 ![0, 2048] · slices_S16384x3584_S16384x512_0_2048) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_v7 : FVec F S4x64 .f32 := Host.absf main_arg2
  let main_cst_1 : FVec F S_ .f32 := constant S_ .f32 0x7F800000#32
  let main_v8 : FVec F S4x64 .f32 := broadcastInDim S4x64 ![] bcast_S_S4x64 main_cst_1
  let main_v9 : IVec S4x64 1 := cmpf .olt main_v7 main_v8
  (main_v3, main_v6, main_v9)
-- ==== Pre_recalls_finite.lean ====
abbrev S16384x512 : Shape := ⟨2, ![16384, 512]⟩
abbrev S4x256x1024 : Shape := ⟨3, ![4, 256, 1024]⟩
abbrev S_ : Shape := ⟨0, ![]⟩
abbrev S4x256x512 : Shape := ⟨3, ![4, 256, 512]⟩

class Facts : Prop where
  bcast_S_S16384x512 : S_.BroadcastsInDim S16384x512 (![] : Fin 0 → Fin S16384x512.rank)
  slices_S4x256x1024_S4x256x512_0_0_0 : S4x256x1024.Slices ![0, 0, 0] S4x256x512
  bcast_S_S4x256x512 : S_.BroadcastsInDim S4x256x512 (![] : Fin 0 → Fin S4x256x512.rank)

variable [Facts]

def fn {F : FTy → Type} [FloatOps F] (main_arg0 : FVec F S16384x512 .f32) (main_arg1 : FVec F S4x256x1024 .f32) : IVec S16384x512 1 × IVec S4x256x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S4x256x512 .f32 := (extractStridedSlice S4x256x512 ![0, 0, 0] · slices_S4x256x1024_S4x256x512_0_0_0) main_arg1
  let main_v4 : FVec F S4x256x512 .f32 := Host.absf main_v3
  let main_cst_0 : FVec F S_ .f32 := constant S_ .f32 0x7F800000#32
  let main_v5 : FVec F S4x256x512 .f32 := broadcastInDim S4x256x512 ![] bcast_S_S4x256x512 main_cst_0
  let main_v6 : IVec S4x256x512 1 := cmpf .olt main_v4 main_v5
  (main_v2, main_v6)
-- ==== Kernel.lean ====
abbrev S16384x3584 : Shape := ⟨2, ![16384, 3584]⟩
abbrev S16384x1024 : Shape := ⟨2, ![16384, 1024]⟩
abbrev S4x64 : Shape := ⟨2, ![4, 64]⟩
abbrev S128 : Shape := ⟨1, ![128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x128 : Shape := ⟨2, ![1, 128]⟩
abbrev S16384x512 : Shape := ⟨2, ![16384, 512]⟩
abbrev S512x128 : Shape := ⟨2, ![512, 128]⟩
abbrev S1x1024 : Shape := ⟨2, ![1, 1024]⟩
abbrev S128x1024 : Shape := ⟨2, ![128, 1024]⟩
abbrev S1024x128 : Shape := ⟨2, ![1024, 128]⟩
abbrev S512x1024 : Shape := ⟨2, ![512, 1024]⟩
abbrev S1024 : Shape := ⟨1, ![1024]⟩
abbrev S1x64 : Shape := ⟨2, ![1, 64]⟩
abbrev S1 : Shape := ⟨1, ![1]⟩
abbrev S1x1 : Shape := ⟨2, ![1, 1]⟩
abbrev S128x512 : Shape := ⟨2, ![128, 512]⟩
abbrev S512 : Shape := ⟨1, ![512]⟩
abbrev S512x1 : Shape := ⟨2, ![512, 1]⟩

abbrev nBuf : Space → Nat
  | .hbm => 32
  | .vmem => 17
  | .smem => 0
  | _ => 0

abbrev bufTy : (tb : Table) → Fin (tcTables nBuf tb) → BufTy
  | .hbm, ⟨0, _⟩ => ⟨S16384x3584, .f32⟩
  | .hbm, ⟨1, _⟩ => ⟨S16384x1024, .f32⟩
  | .hbm, ⟨2, _⟩ => ⟨S4x64, .f32⟩
  | .hbm, ⟨3, _⟩ => ⟨S128, .f32⟩
  | .hbm, ⟨4, _⟩ => ⟨S4096, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x64, .f32⟩
  | .hbm, ⟨22, _⟩ => ⟨S1x4096x1x64, .f32⟩
  | .hbm, ⟨23, _⟩ => ⟨S1x4096x2x64, .f32⟩
  | .hbm, ⟨24, _⟩ => ⟨S4096x128, .f32⟩
  | .hbm, ⟨25, _⟩ => ⟨S4096x32, .f32⟩
  | .hbm, ⟨26, _⟩ => ⟨S4096x64, .f32⟩
  | .hbm, ⟨27, _⟩ => ⟨S1x4096x1x64, .f32⟩
  | .hbm, ⟨28, _⟩ => ⟨S1x4096x2x64, .f32⟩
  | .hbm, ⟨29, _⟩ => ⟨S4096x128, .f32⟩
  | .hbm, ⟨30, _⟩ => ⟨S1x128, .f32⟩
  | .hbm, ⟨31, _⟩ => ⟨S16384x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4x64, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | _, _ => ⟨S16384x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_18 : BitVec 32 := 0#32
  let arg2 : BitVec 32 := BitVec.ofNat 32 (i 2).val
  let v41 : BitVec 32 := Scalar.subi arg2 c0_i32_18
  let c1_i32 : BitVec 32 := 1#32
  let v43 : BitVec 32 := Scalar.divsi v41 c1_i32
  let v44 : BitVec 32 := Scalar.muli v43 c1_i32
  let v45 : BitVec 32 := Scalar.addi c0_i32_18 v44
  let c1_i32_19 : BitVec 32 := 1#32
  ⟨c0_i32_18, v45, c1_i32_19⟩
def k0_mult1 (i : grid0.Coords) (k0_t1 : Fin (k0_t1_loop i).trips) : BitVec 32 :=
  let c0_i32_18 : BitVec 32 := 0#32
  let c1_i32_19 : BitVec 32 := 1#32
  let arg14 : BitVec 32 := Scf.iv c0_i32_18 c1_i32_19 k0_t1
  let c512_i32_58 : BitVec 32 := 512#32
  let v137 : BitVec 32 := Scalar.muli arg14 c512_i32_58
  v137
def k0_off1 (i : grid0.Coords) (k0_t1 : Fin (k0_t1_loop i).trips) : Fin 2 → Nat :=
  let c0_i32_18 : BitVec 32 := 0#32
  let c1_i32_19 : BitVec 32 := 1#32
  let arg14 : BitVec 32 := Scf.iv c0_i32_18 c1_i32_19 k0_t1
  let c512_i32_58 : BitVec 32 := 512#32
  let v137 : BitVec 32 := Scalar.muli arg14 c512_i32_58
  let v138 : BitVec 32 := v137
  let v139 : Index := Scalar.indexCast v138
  let c0_59 : Index := 0#32
  ![v139.toNat, 0]
@[reducible] def k0_t2_loop (i : grid0.Coords) : Scf.Loop 32 :=
  let c0_i32_18 : BitVec 32 := 0#32
  let arg2 : BitVec 32 := BitVec.ofNat 32 (i 2).val
  let v41 : BitVec 32 := Scalar.subi arg2 c0_i32_18
  let c1_i32 : BitVec 32 := 1#32
  let v43 : BitVec 32 := Scalar.divsi v41 c1_i32
  let v44 : BitVec 32 := Scalar.muli v43 c1_i32
  let v45 : BitVec 32 := Scalar.addi c0_i32_18 v44
  let v42 : BitVec 32 := Scalar.addi c0_i32_18 v41
  let c1_i32_20 : BitVec 32 := 1#32
  ⟨v45, v42, c1_i32_20⟩
def k0_mult2 (i : grid0.Coords) (k0_t2 : Fin (k0_t2_loop i).trips) : BitVec 32 :=
  let c0_i32_18 : BitVec 32 := 0#32
  let arg2 : BitVec 32 := BitVec.ofNat 32 (i 2).val
  let v41 : BitVec 32 := Scalar.subi arg2 c0_i32_18
  let c1_i32 : BitVec 32 := 1#32
  let v43 : BitVec 32 := Scalar.divsi v41 c1_i32
  let v44 : BitVec 32 := Scalar.muli v43 c1_i32
  let v45 : BitVec 32 := Scalar.addi c0_i32_18 v44
  let c1_i32_20 : BitVec 32 := 1#32
  let arg14 : BitVec 32 := Scf.iv v45 c1_i32_20 k0_t2
  let c512_i32_58 : BitVec 32 := 512#32
  let v137 : BitVec 32 := Scalar.muli arg14 c512_i32_58
  v137
def k0_off2 (i : grid0.Coords) (k0_t2 : Fin (k0_t2_loop i).trips) : Fin 2 → Nat :=
  let c0_i32_18 : BitVec 32 := 0#32
  let arg2 : BitVec 32 := BitVec.ofNat 32 (i 2).val
  let v41 : BitVec 32 := Scalar.subi arg2 c0_i32_18
  let c1_i32 : BitVec 32 := 1#32
  let v43 : BitVec 32 := Scalar.divsi v41 c1_i32
  let v44 : BitVec 32 := Scalar.muli v43 c1_i32
  let v45 : BitVec 32 := Scalar.addi c0_i32_18 v44
  let c1_i32_20 : BitVec 32 := 1#32
  let arg14 : BitVec 32 := Scf.iv v45 c1_i32_20 k0_t2
  let c512_i32_58 : BitVec 32 := 512#32
  let v137 : BitVec 32 := Scalar.muli arg14 c512_i32_58
  let v138 : BitVec 32 := v137
  let v139 : Index := Scalar.indexCast v138
  let c0_59 : Index := 0#32
  ![v139.toNat, 0]
def k0_mult3 (i : grid0.Coords) : BitVec 32 :=
  let arg2 : BitVec 32 := BitVec.ofNat 32 (i 2).val
  let c512_i32 : BitVec 32 := 512#32
  let v50 : BitVec 32 := Scalar.muli arg2 c512_i32
  v50
def k0_off3 (i : grid0.Coords) : Fin 2 → Nat :=
  let arg2 : BitVec 32 := BitVec.ofNat 32 (i 2).val
  let c512_i32 : BitVec 32 := 512#32
  let v50 : BitVec 32 := Scalar.muli arg2 c512_i32
  let v51 : BitVec 32 := v50
  let v52 : Index := Scalar.indexCast v51
  let c0_21 : Index := 0#32
  ![v52.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16384x3584 : Shape := ⟨2, ![16384, 3584]⟩
abbrev S16384x1024 : Shape := ⟨2, ![16384, 1024]⟩
abbrev S4x64 : Shape := ⟨2, ![4, 64]⟩
abbrev S128 : Shape := ⟨1, ![128]⟩
abbrev S4096 : Shape := ⟨1, ![4096]⟩
abbrev S16384x512 : Shape := ⟨2, ![16384, 512]⟩
abbrev S4x4096x4x128 : Shape := ⟨4, ![4, 4096, 4, 128]⟩
abbrev S4x4096x4x64 : Shape := ⟨4, ![4, 4096, 4, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x4x32 : Shape := ⟨4, ![4, 4096, 4, 32]⟩
abbrev S4x4096x2x4x128 : Shape := ⟨5, ![4, 4096, 2, 4, 128]⟩
abbrev S4x4096x1x4x128 : Shape := ⟨5, ![4, 4096, 1, 4, 128]⟩
abbrev S1x64 : Shape := ⟨2, ![1, 64]⟩
abbrev S64 : Shape := ⟨1, ![64]⟩
abbrev S1x4096 : Shape := ⟨2, ![1, 4096]⟩
abbrev S4096x4096 : Shape := ⟨2, ![4096, 4096]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 178
  | .vmem => 0
  | .smem => 0
  | _ => 0

abbrev hbmTy0_0 (i : Nat) : BufTy := match i % 128 with
  | 0 => ⟨S16384x3584, .f32⟩
  | 1 => ⟨S16384x1024, .f32⟩
  | 2 => ⟨S4x64, .f32⟩
  | 3 => ⟨S128, .f32⟩
  | 4 => ⟨S4096, .i32⟩
  | 5 => ⟨S16384x512, .f32⟩
  | 6 => ⟨S4x4096x4x128, .f32⟩
  | 7 => ⟨S4x4096x4x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4096, .f32⟩
  | 17 => ⟨S4096x1, .f32⟩
  | 18 => ⟨S1x32, .f32⟩
  | 19 => ⟨S4096x32, .f32⟩
  | 20 => ⟨S4096x32, .f32⟩
  | 21 => ⟨S4096x32, .f32⟩
  | 22 => ⟨S4096x32, .f32⟩
  | 23 => ⟨S1x4096x1x32, .f32⟩
  | 24 => ⟨S4096x32, .f32⟩
  | 25 => ⟨S1x4096x1x32, .f32⟩
  | 26 => ⟨S4x4096x4x32, .f32⟩
  | 27 => ⟨S4x4096x4x32, .f32⟩
  | 28 => ⟨S4x4096x4x32, .f32⟩
  | 29 => ⟨S4x4096x4x32, .f32⟩
  | 30 => ⟨S4x4096x4x32, .f32⟩
  | 31 => ⟨S4x4096x4x32, .f32⟩
  | 32 => ⟨S4x4096x4x32, .f32⟩
  | 33 => ⟨S4x4096x4x32, .f32⟩
  | 34 => ⟨S4x4096x4x32, .f32⟩
  | 35 => ⟨S4x4096x4x32, .f32⟩
  | 36 => ⟨S4x4096x4x32, .f32⟩
  | 37 => ⟨S4x4096x4x32, .f32⟩
  | 38 => ⟨S4x4096x4x64, .f32⟩
  | 39 => ⟨S4x4096x4x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S4096, .f32⟩
  | 49 => ⟨S4096x1, .f32⟩
  | 50 => ⟨S1x32, .f32⟩
  | 51 => ⟨S4096x32, .f32⟩
  | 52 => ⟨S4096x32, .f32⟩
  | 53 => ⟨S4096x32, .f32⟩
  | 54 => ⟨S4096x32, .f32⟩
  | 55 => ⟨S1x4096x1x32, .f32⟩
  | 56 => ⟨S4096x32, .f32⟩
  | 57 => ⟨S1x4096x1x32, .f32⟩
  | 58 => ⟨S4x4096x4x32, .f32⟩
  | 59 => ⟨S4x4096x4x32, .f32⟩
  | 60 => ⟨S4x4096x4x32, .f32⟩
  | 61 => ⟨S4x4096x4x32, .f32⟩
  | 62 => ⟨S4x4096x4x32, .f32⟩
  | 63 => ⟨S4x4096x4x32, .f32⟩
  | 64 => ⟨S4x4096x4x32, .f32⟩
  | 65 => ⟨S4x4096x4x32, .f32⟩
  | 66 => ⟨S4x4096x4x32, .f32⟩
  | 67 => ⟨S4x4096x4x32, .f32⟩
  | 68 => ⟨S4x4096x4x32, .f32⟩
  | 69 => ⟨S4x4096x4x32, .f32⟩
  | 70 => ⟨S4x4096x4x64, .f32⟩
  | 71 => ⟨S4x4096x4x128, .f32⟩
  | 72 => ⟨S4x4096x2x4x128, .f32⟩
  | 73 => ⟨S4x4096x1x4x128, .f32⟩
  | 74 => ⟨S4x4096x4x128, .f32⟩
  | 75 => ⟨S4x4096x1x4x128, .f32⟩
  | 76 => ⟨S4x4096x4x128, .f32⟩
  | 77 => ⟨S1x64, .f32⟩
  | 78 => ⟨S64, .f32⟩
  | 79 => ⟨S1x64, .f32⟩
  | 80 => ⟨S64, .f32⟩
  | 81 => ⟨S64, .f32⟩
  | 82 => ⟨S_, .f32⟩
  | 83 => ⟨S_, .f32⟩
  | 84 => ⟨S_, .f32⟩
  | 85 => ⟨S1x64, .f32⟩
  | 86 => ⟨S64, .f32⟩
  | 87 => ⟨S1x64, .f32⟩
  | 88 => ⟨S64, .f32⟩
  | 89 => ⟨S64, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S4096, .i32⟩
  | 97 => ⟨S1x4096, .i32⟩
  | 98 => ⟨S4096, .i32⟩
  | 99 => ⟨S4096x1, .i32⟩
  | 100 => ⟨S4096x4096, .i32⟩
  | 101 => ⟨S4096x4096, .i32⟩
  | 102 => ⟨S4096x4096, .i1⟩
  | 103 => ⟨S4x4096x4x64, .f32⟩
  | 104 => ⟨S4x4096x4x64, .f32⟩
  | 105 => ⟨S4x4x4096x4096, .f32⟩
  | 106 => ⟨S_, .f32⟩
  | 107 => ⟨S4x4x4096x4096, .f32⟩
  | 108 => ⟨S4x4x4096x4096, .f32⟩
  | 109 => ⟨S4x4096x4x64, .f32⟩
  | 110 => ⟨S4x4096x4x64, .f32⟩
  | 111 => ⟨S4x4x4096x4096, .f32⟩
  | 112 => ⟨S_, .f32⟩
  | 113 => ⟨S4x4x4096x4096, .f32⟩
  | 114 => ⟨S4x4x4096x4096, .f32⟩
  | 115 => ⟨S_, .f32⟩
  | 116 => ⟨S_, .f32⟩
  | 117 => ⟨S4x4x4096x4096, .i1⟩
  | 118 => ⟨S4x4x4096x4096, .f32⟩
  | 119 => ⟨S4x4x4096x4096, .f32⟩
  | 120 => ⟨S_, .f32⟩
  | 121 => ⟨S4x4x4096, .f32⟩
  | 122 => ⟨S_, .f32⟩
  | 123 => ⟨S4x4x4096, .f32⟩
  | 124 => ⟨S4x4x4096, .f32⟩
  | 125 => ⟨S4x4x4096x1, .f32⟩
  | 126 => ⟨S4x4x4096x4096, .f32⟩
  | 127 => ⟨S4x4x4096x4096, .f32⟩
  | _ => ⟨S16384x3584, .f32⟩

abbrev hbmTy0_1 (i : Nat) : BufTy := match i % 128 with
  | 0 => ⟨S4x4x4096x4096, .f32⟩
  | 1 => ⟨S_, .f32⟩
  | 2 => ⟨S4x4x4096, .f32⟩
  | 3 => ⟨S4x4x4096x1, .f32⟩
  | 4 => ⟨S4x4x4096x4096, .f32⟩
  | 5 => ⟨S4x4x4096x4096, .f32⟩
  | 6 => ⟨S_, .f32⟩
  | 7 => ⟨S_, .f32⟩
  | 8 => ⟨S4x4x4096x4096, .i1⟩
  | 9 => ⟨S4x4x4096x4096, .f32⟩
  | 10 => ⟨S4x4x4096x4096, .f32⟩
  | 11 => ⟨S_, .f32⟩
  | 12 => ⟨S4x4x4096, .f32⟩
  | 13 => ⟨S_, .f32⟩
  | 14 => ⟨S4x4x4096, .f32⟩
  | 15 => ⟨S4x4x4096, .f32⟩
  | 16 => ⟨S4x4x4096x1, .f32⟩
  | 17 => ⟨S4x4x4096x4096, .f32⟩
  | 18 => ⟨S4x4x4096x4096, .f32⟩
  | 19 => ⟨S4x4x4096x4096, .f32⟩
  | 20 => ⟨S_, .f32⟩
  | 21 => ⟨S4x4x4096, .f32⟩
  | 22 => ⟨S4x4x4096x1, .f32⟩
  | 23 => ⟨S4x4x4096x4096, .f32⟩
  | 24 => ⟨S4x4x4096x4096, .f32⟩
  | 25 => ⟨S4x4x4096x4096, .f32⟩
  | 26 => ⟨S4x4x4096x4096, .f32⟩
  | 27 => ⟨S4x4x4096x4096, .f32⟩
  | 28 => ⟨S4x4x128x4096, .f32⟩
  | 29 => ⟨S4x4096x4x128, .f32⟩
  | 30 => ⟨S4x4096x4x128, .f32⟩
  | 31 => ⟨S_, .f32⟩
  | 32 => ⟨S4x4096x4, .f32⟩
  | 33 => ⟨S4x4096x4x1, .f32⟩
  | 34 => ⟨S_, .f32⟩
  | 35 => ⟨S4x4096x4x1, .f32⟩
  | 36 => ⟨S4x4096x4x1, .f32⟩
  | 37 => ⟨S_, .f32⟩
  | 38 => ⟨S4x4096x4x1, .f32⟩
  | 39 => ⟨S4x4096x4x1, .f32⟩
  | 40 => ⟨S4x4096x4x1, .f32⟩
  | 41 => ⟨S4x4096x4x128, .f32⟩
  | 42 => ⟨S4x4096x4x128, .f32⟩
  | 43 => ⟨S1x1x1x128, .f32⟩
  | 44 => ⟨S4x4096x4x128, .f32⟩
  | 45 => ⟨S4x4096x4x128, .f32⟩
  | 46 => ⟨S_, .f32⟩
  | 47 => ⟨S4x4096x4x128, .f32⟩
  | 48 => ⟨S4x4096x4x128, .f32⟩
  | 49 => ⟨S16384x512, .f32⟩
  | _ => ⟨S16384x3584, .f32⟩

abbrev hbmTy (i : Nat) : BufTy := match i / 128 with
  | 0 => hbmTy0_0 i
  | 1 => hbmTy0_1 i
  | _ => ⟨S16384x3584, .f32⟩

abbrev bufTy : (tb : Table) → Fin (tcTables nBuf tb) → BufTy
  | .hbm, ⟨i, _⟩ => hbmTy i
  | _, _ => ⟨S16384x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_cst_3 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_4 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_cst_5 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_6 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_cst_7 : Ref sig .tc := ⟨.hbm, 112, rfl⟩
abbrev main_v100 : Ref sig .tc := ⟨.hbm, 113, rfl⟩
abbrev main_v101 : Ref sig .tc := ⟨.hbm, 114, rfl⟩
abbrev main_cst_8 : Ref sig .tc := ⟨.hbm, 115, rfl⟩
abbrev main_call0_v0 : Ref sig .tc := ⟨.hbm, 116, rfl⟩
abbrev main_call0_v1 : Ref sig .tc := ⟨.hbm, 117, rfl⟩
abbrev main_call0_v2 : Ref sig .tc := ⟨.hbm, 118, rfl⟩
abbrev main_v102 : Ref sig .tc := ⟨.hbm, 119, rfl⟩
abbrev main_cst_9 : Ref sig .tc := ⟨.hbm, 120, rfl⟩
abbrev main_v103 : Ref sig .tc := ⟨.hbm, 121, rfl⟩
abbrev main_cst_10 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_11 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_12 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_v114 : Ref sig .tc := ⟨.hbm, 138, rfl⟩
abbrev main_cst_13 : Ref sig .tc := ⟨.hbm, 139, rfl⟩
abbrev main_v115 : Ref sig .tc := ⟨.hbm, 140, rfl⟩
abbrev main_cst_14 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_15 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_16 : Ref sig .tc := ⟨.hbm, 159, rfl⟩
abbrev main_v132 : Ref sig .tc := ⟨.hbm, 160, rfl⟩
abbrev main_v133 : Ref sig .tc := ⟨.hbm, 161, rfl⟩
abbrev main_cst_17 : Ref sig .tc := ⟨.hbm, 162, rfl⟩
abbrev main_v134 : Ref sig .tc := ⟨.hbm, 163, rfl⟩
abbrev main_v135 : Ref sig .tc := ⟨.hbm, 164, rfl⟩
abbrev main_cst_18 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_cst_19 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== InEven.lean ====
abbrev S16384x1024 : Shape := ⟨2, ![16384, 1024]⟩
abbrev S1024 : Shape := ⟨1, ![1024]⟩
abbrev S1024x3584 : Shape := ⟨2, ![1024, 3584]⟩
abbrev S1x1024 : Shape := ⟨2, ![1, 1024]⟩
abbrev S16384x3584 : Shape := ⟨2, ![16384, 3584]⟩
abbrev S512x1024 : Shape := ⟨2, ![512, 1024]⟩
abbrev S512x3584 : Shape := ⟨2, ![512, 3584]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S1024x3584, .bf16⟩
  | .hbm, ⟨4, _⟩ => ⟨S1x1024, .f32⟩
  | .hbm, ⟨5, _⟩ => ⟨S16384x3584, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x3584, .f32⟩
  | .local _ .vmem, ⟨5, _⟩ => ⟨S512x3584, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InEvenIdeal.lean ====
abbrev S16384x1024 : Shape := ⟨2, ![16384, 1024]⟩
abbrev S1024 : Shape := ⟨1, ![1024]⟩
abbrev S1024x3584 : Shape := ⟨2, ![1024, 3584]⟩
abbrev S1x1024 : Shape := ⟨2, ![1, 1024]⟩
abbrev S16384x3584 : Shape := ⟨2, ![16384, 3584]⟩
abbrev S512x1024 : Shape := ⟨2, ![512, 1024]⟩
abbrev S512x3584 : Shape := ⟨2, ![512, 3584]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S1024x3584, .bf16⟩
  | .hbm, ⟨4, _⟩ => ⟨S1x1024, .f32⟩
  | .hbm, ⟨5, _⟩ => ⟨S16384x3584, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x3584, .f32⟩
  | .local _ .vmem, ⟨5, _⟩ => ⟨S512x3584, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InEvenReferenceIdeal.lean ====
abbrev S16384x1024 : Shape := ⟨2, ![16384, 1024]⟩
abbrev S1024 : Shape := ⟨1, ![1024]⟩
abbrev S1024x3584 : Shape := ⟨2, ![1024, 3584]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3584 : Shape := ⟨2, ![16384, 3584]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3584, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InOdd.lean ====
abbrev S16384x1024 : Shape := ⟨2, ![16384, 1024]⟩
abbrev S1024 : Shape := ⟨1, ![1024]⟩
abbrev S1024x4224 : Shape := ⟨2, ![1024, 4224]⟩
abbrev S1x1024 : Shape := ⟨2, ![1, 1024]⟩
abbrev S16384x4224 : Shape := ⟨2, ![16384, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4224, .f32⟩
  | .hbm, ⟨3, _⟩ => ⟨S1024x4224, .bf16⟩
  | .hbm, ⟨4, _⟩ => ⟨S1x1024, .f32⟩
  | .hbm, ⟨5, _⟩ => ⟨S16384x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x4224, .f32⟩
  | .local _ .vmem, ⟨5, _⟩ => ⟨S512x4224, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InOddIdeal.lean ====
abbrev S16384x1024 : Shape := ⟨2, ![16384, 1024]⟩
abbrev S1024 : Shape := ⟨1, ![1024]⟩
abbrev S1024x4224 : Shape := ⟨2, ![1024, 4224]⟩
abbrev S1x1024 : Shape := ⟨2, ![1, 1024]⟩
abbrev S16384x4224 : Shape := ⟨2, ![16384, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4224, .f32⟩
  | .hbm, ⟨3, _⟩ => ⟨S1024x4224, .bf16⟩
  | .hbm, ⟨4, _⟩ => ⟨S1x1024, .f32⟩
  | .hbm, ⟨5, _⟩ => ⟨S16384x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x4224, .f32⟩
  | .local _ .vmem, ⟨5, _⟩ => ⟨S512x4224, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InOddReferenceIdeal.lean ====
abbrev S16384x1024 : Shape := ⟨2, ![16384, 1024]⟩
abbrev S1024 : Shape := ⟨1, ![1024]⟩
abbrev S1024x4224 : Shape := ⟨2, ![1024, 4224]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4224 : Shape := ⟨2, ![16384, 4224]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4224, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4224, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MemQuery.lean ====
abbrev S16384x1024 : Shape := ⟨2, ![16384, 1024]⟩
abbrev S1024 : Shape := ⟨1, ![1024]⟩
abbrev S1024x512 : Shape := ⟨2, ![1024, 512]⟩
abbrev S1x1024 : Shape := ⟨2, ![1, 1024]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S1024x512, .bf16⟩
  | .hbm, ⟨4, _⟩ => ⟨S1x1024, .f32⟩
  | .hbm, ⟨5, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemQueryReferenceIdeal.lean ====
abbrev S16384x1024 : Shape := ⟨2, ![16384, 1024]⟩
abbrev S1024 : Shape := ⟨1, ![1024]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Memory.lean ====
abbrev S4x256x1024 : Shape := ⟨3, ![4, 256, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemoryReferenceIdeal.lean ====
abbrev S4x256x1024 : Shape := ⟨3, ![4, 256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x256x1024, .f32⟩
  | .hbm, ⟨3, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mixed.lean ====
abbrev S16384x1024 : Shape := ⟨2, ![16384, 1024]⟩
abbrev S16384x512 : Shape := ⟨2, ![16384, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixedReferenceIdeal.lean ====
abbrev S16384x1024 : Shape := ⟨2, ![16384, 1024]⟩
abbrev S16384x512 : Shape := ⟨2, ![16384, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Recalled.lean ====
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S512x1024, .f32⟩
  | .hbm, ⟨3, _⟩ => ⟨S512x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RecalledReferenceIdeal.lean ====
abbrev S16384x1024 : Shape := ⟨2, ![16384, 1024]⟩
abbrev S16384x512 : Shape := ⟨2, ![16384, 512]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S512x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== LastNorm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LastNormReferenceIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Recall.lean ====
abbrev S16384x512 : Shape := ⟨2, ![16384, 512]⟩
abbrev S4x256x1024 : Shape := ⟨3, ![4, 256, 1024]⟩
abbrev S512x512 : Shape := ⟨2, ![512, 512]⟩
abbrev S1x256x1024 : Shape := ⟨3, ![1, 256, 1024]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4x256x1024, .f32⟩
  | .hbm, ⟨2, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S1x256x1024, .f32⟩
  | .local _ .vmem, ⟨3, _⟩ => ⟨S1x256x1024, .f32⟩
  | .local _ .vmem, ⟨4, _⟩ => ⟨S512x512, .f32⟩
  | .local _ .vmem, ⟨5, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RecallReferenceIdeal.lean ====
abbrev S16384x512 : Shape := ⟨2, ![16384, 512]⟩
abbrev S4x256x1024 : Shape := ⟨3, ![4, 256, 1024]⟩
abbrev S4x4096x4x128 : Shape := ⟨4, ![4, 4096, 4, 128]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x256x1024, .f32⟩
  | .hbm, ⟨2, _⟩ => ⟨S4x4096x4x128, .f32⟩
  | .hbm, ⟨3, _⟩ => ⟨S4x256x2x4x128, .f32⟩
  | .hbm, ⟨4, _⟩ => ⟨S4x256x1x4x128, .f32⟩
  | .hbm, ⟨5, _⟩ => ⟨S4x256x4x128, .f32⟩
  | .hbm, ⟨6, _⟩ => ⟨S4x4x4096x256, .f32⟩
  | .hbm, ⟨7, _⟩ => ⟨S_, .f32⟩
  | .hbm, ⟨8, _⟩ => ⟨S4x4x4096x256, .f32⟩
  | .hbm, ⟨9, _⟩ => ⟨S4x4x4096x256, .f32⟩
  | .hbm, ⟨10, _⟩ => ⟨S_, .f32⟩
  | .hbm, ⟨11, _⟩ => ⟨S4x4x4096, .f32⟩
  | .hbm, ⟨12, _⟩ => ⟨S_, .f32⟩
  | .hbm, ⟨13, _⟩ => ⟨S4x4x4096, .f32⟩
  | .hbm, ⟨14, _⟩ => ⟨S4x4x4096, .f32⟩
  | .hbm, ⟨15, _⟩ => ⟨S4x4x4096x1, .f32⟩
  | .hbm, ⟨16, _⟩ => ⟨S4x4x4096x256, .f32⟩
  | .hbm, ⟨17, _⟩ => ⟨S4x4x4096x256, .f32⟩
  | .hbm, ⟨18, _⟩ => ⟨S4x4x4096x256, .f32⟩
  | .hbm, ⟨19, _⟩ => ⟨S_, .f32⟩
  | .hbm, ⟨20, _⟩ => ⟨S4x4x4096, .f32⟩
  | .hbm, ⟨21, _⟩ => ⟨S4x4x4096x1, .f32⟩
  | .hbm, ⟨22, _⟩ => ⟨S4x4x4096x256, .f32⟩
  | .hbm, ⟨23, _⟩ => ⟨S4x4x4096x256, .f32⟩
  | .hbm, ⟨24, _⟩ => ⟨S4x256x1x4x128, .f32⟩
  | .hbm, ⟨25, _⟩ => ⟨S4x256x4x128, .f32⟩
  | .hbm, ⟨26, _⟩ => ⟨S4x4x128x4096, .f32⟩
  | .hbm, ⟨27, _⟩ => ⟨S4x4096x4x128, .f32⟩
  | .hbm, ⟨28, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== DiffKv.lean ====
abbrev S16384x3584 : Shape := ⟨2, ![16384, 3584]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S512x512 : Shape := ⟨2, ![512, 512]⟩
abbrev S512x128 : Shape := ⟨2, ![512, 128]⟩
abbrev S512x1024 : Shape := ⟨2, ![512, 1024]⟩

abbrev nBuf : Space → Nat
  | .hbm => 28
  | .vmem => 10
  | .smem => 0
  | _ => 0

abbrev bufTy : (tb : Table) → Fin (tcTables nBuf tb) → BufTy
  | .hbm, ⟨0, _⟩ => ⟨S16384x3584, .f32⟩
  | .hbm, ⟨1, _⟩ => ⟨S4096, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S4096, .f32⟩
  | .hbm, ⟨11, _⟩ => ⟨S4096x1, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x64, .f32⟩
  | .hbm, ⟨19, _⟩ => ⟨S1x4096x1x64, .f32⟩
  | .hbm, ⟨20, _⟩ => ⟨S1x4096x2x64, .f32⟩
  | .hbm, ⟨21, _⟩ => ⟨S4096x128, .f32⟩
  | .hbm, ⟨22, _⟩ => ⟨S4096x32, .f32⟩
  | .hbm, ⟨23, _⟩ => ⟨S4096x64, .f32⟩
  | .hbm, ⟨24, _⟩ => ⟨S1x4096x1x64, .f32⟩
  | .hbm, ⟨25, _⟩ => ⟨S1x4096x2x64, .f32⟩
  | .hbm, ⟨26, _⟩ => ⟨S4096x128, .f32⟩
  | .hbm, ⟨27, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | _, _ => ⟨S16384x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DiffKvReferenceIdeal.lean ====
abbrev S16384x3584 : Shape := ⟨2, ![16384, 3584]⟩
abbrev S4096 : Shape := ⟨1, ![4096]⟩
abbrev S16384x512 : Shape := ⟨2, ![16384, 512]⟩
abbrev S4x4096x4x128 : Shape := ⟨4, ![4, 4096, 4, 128]⟩
abbrev S4x4096x4x64 : Shape := ⟨4, ![4, 4096, 4, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x4x32 : Shape := ⟨4, ![4, 4096, 4, 32]⟩
abbrev S4x4096x1x4x128 : Shape := ⟨5, ![4, 4096, 1, 4, 128]⟩
abbrev S4x4096x2x4x128 : Shape := ⟨5, ![4, 4096, 2, 4, 128]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16384x3584, .f32⟩
  | .hbm, ⟨1, _⟩ => ⟨S4096, .i32⟩
  | .hbm, ⟨2, _⟩ => ⟨S16384x512, .f32⟩
  | .hbm, ⟨3, _⟩ => ⟨S4x4096x4x128, .f32⟩
  | .hbm, ⟨4, _⟩ => ⟨S16384x512, .f32⟩
  | .hbm, ⟨5, _⟩ => ⟨S4x4096x4x128, .f32⟩
  | .hbm, ⟨6, _⟩ => ⟨S4x4096x4x64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4096, .f32⟩
  | .hbm, ⟨16, _⟩ => ⟨S4096x1, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S1x4096x1x32, .f32⟩
  | .hbm, ⟨23, _⟩ => ⟨S4096x32, .f32⟩
  | .hbm, ⟨24, _⟩ => ⟨S1x4096x1x32, .f32⟩
  | .hbm, ⟨25, _⟩ => ⟨S4x4096x4x32, .f32⟩
  | .hbm, ⟨26, _⟩ => ⟨S4x4096x4x32, .f32⟩
  | .hbm, ⟨27, _⟩ => ⟨S4x4096x4x32, .f32⟩
  | .hbm, ⟨28, _⟩ => ⟨S4x4096x4x32, .f32⟩
  | .hbm, ⟨29, _⟩ => ⟨S4x4096x4x32, .f32⟩
  | .hbm, ⟨30, _⟩ => ⟨S4x4096x4x32, .f32⟩
  | .hbm, ⟨31, _⟩ => ⟨S4x4096x4x32, .f32⟩
  | .hbm, ⟨32, _⟩ => ⟨S4x4096x4x32, .f32⟩
  | .hbm, ⟨33, _⟩ => ⟨S4x4096x4x32, .f32⟩
  | .hbm, ⟨34, _⟩ => ⟨S4x4096x4x32, .f32⟩
  | .hbm, ⟨35, _⟩ => ⟨S4x4096x4x32, .f32⟩
  | .hbm, ⟨36, _⟩ => ⟨S4x4096x4x32, .f32⟩
  | .hbm, ⟨37, _⟩ => ⟨S4x4096x4x64, .f32⟩
  | .hbm, ⟨38, _⟩ => ⟨S4x4096x4x64, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S4096, .f32⟩
  | .hbm, ⟨48, _⟩ => ⟨S4096x1, .f32⟩
  | .hbm, ⟨49, _⟩ => ⟨S1x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S1x4096x1x32, .f32⟩
  | .hbm, ⟨55, _⟩ => ⟨S4096x32, .f32⟩
  | .hbm, ⟨56, _⟩ => ⟨S1x4096x1x32, .f32⟩
  | .hbm, ⟨57, _⟩ => ⟨S4x4096x4x32, .f32⟩
  | .hbm, ⟨58, _⟩ => ⟨S4x4096x4x32, .f32⟩
  | .hbm, ⟨59, _⟩ => ⟨S4x4096x4x32, .f32⟩
  | .hbm, ⟨60, _⟩ => ⟨S4x4096x4x32, .f32⟩
  | .hbm, ⟨61, _⟩ => ⟨S4x4096x4x32, .f32⟩
  | .hbm, ⟨62, _⟩ => ⟨S4x4096x4x32, .f32⟩
  | .hbm, ⟨63, _⟩ => ⟨S4x4096x4x32, .f32⟩
  | .hbm, ⟨64, _⟩ => ⟨S4x4096x4x32, .f32⟩
  | .hbm, ⟨65, _⟩ => ⟨S4x4096x4x32, .f32⟩
  | .hbm, ⟨66, _⟩ => ⟨S4x4096x4x32, .f32⟩
  | .hbm, ⟨67, _⟩ => ⟨S4x4096x4x32, .f32⟩
  | .hbm, ⟨68, _⟩ => ⟨S4x4096x4x32, .f32⟩
  | .hbm, ⟨69, _⟩ => ⟨S4x4096x4x64, .f32⟩
  | .hbm, ⟨70, _⟩ => ⟨S4x4096x4x128, .f32⟩
  | .hbm, ⟨71, _⟩ => ⟨S4x4096x1x4x128, .f32⟩
  | .hbm, ⟨72, _⟩ => ⟨S4x4096x1x4x128, .f32⟩
  | .hbm, ⟨73, _⟩ => ⟨S4x4096x2x4x128, .f32⟩
  | .hbm, ⟨74, _⟩ => ⟨S16384x1024, .f32⟩
  | _, _ => ⟨S16384x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst_1 : Ref sig .tc := ⟨.hbm, 41, rfl⟩
abbrev main_v38 : Ref sig .tc := ⟨.hbm, 42, rfl⟩
abbrev main_v39 : Ref sig .tc := ⟨.hbm, 43, rfl⟩
abbrev main_cst_2 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩

abbrev nD : Nat := 1
abbrev τ : Topo := Topo.v7x

variable {F : FTy → Type} [FloatOps F]
-- ==== Proof.Softmax.lean ====
module

public import Idealize.ShloMosaic.PureOps.Ideal
public import Idealize.ShloMosaic.Lib.IdealHost

@[expose] public section

/-! Softmax over the first keys of a sequence, as real numbers: the running form that a loop over tiles keeps
(maximum, sum of weights, weighted sum of values) and the plain form (masked scores, one maximum, one sum) both come to
`att`, the quotient of the two sums. -/

noncomputable section

open Idealize.ShloMosaic

namespace Cert.Softmax

/-- The values `w` of the first `N` keys, weighted by the exponentials of their scores `σ` less the shift `M`. -/
def wsum (σ w : ℕ → ℝ) (M : ℝ) (N : ℕ) : ℝ := ∑ k ∈ Finset.range N, w k * Real.exp (σ k - M)

/-- Softmax-weighted mean of the values `w` over the first `N` keys with scores `σ`. -/
def att (σ w : ℕ → ℝ) (N : ℕ) : ℝ := wsum σ w 0 N / wsum σ (fun _ => 1) 0 N

/-- A change of the shift multiplies the weighted sum. -/
theorem wsum_shift (σ w : ℕ → ℝ) (M M' : ℝ) (N : ℕ) : Real.exp (M - M') * wsum σ w M N = wsum σ w M' N := by
  unfold wsum
  rw [Finset.mul_sum]
  refine Finset.sum_congr rfl fun k _ => ?_
  rw [mul_left_comm, ← Real.exp_add]
  congr 2; ring

/-- One more tile of `n` keys: the old sum at the new shift, and the tile's own. -/
theorem wsum_tile (σ w : ℕ → ℝ) (M M' : ℝ) (N n : ℕ) :
    Real.exp (M - M') * wsum σ w M N + ∑ i : Fin n, w (N + i.val) * Real.exp (σ (N + i.val) - M') = wsum σ w M' (N + n) := by
  rw [wsum_shift, Fin.sum_univ_eq_sum_range (fun i => w (N + i) * Real.exp (σ (N + i) - M'))]
  unfold wsum
  rw [Finset.sum_range_add]

/-- A sum over `n` places of which those after place `ρ` are zero. -/
theorem sum_upto (n ρ : ℕ) (h : ρ < n) (f : ℕ → ℝ) : ∑ i : Fin n, (if i.val ≤ ρ then f i.val else 0) = ∑ i : Fin (ρ + 1), f i.val := by
  rw [Fin.sum_univ_eq_sum_range (fun i => if i ≤ ρ then f i else 0), Fin.sum_univ_eq_sum_range f, ← Finset.sum_filter]
  refine Finset.sum_congr ?_ fun _ _ => rfl
  ext i; simp only [Finset.mem_filter, Finset.mem_range]; omega

theorem wsum_pos (σ : ℕ → ℝ) (M : ℝ) (N : ℕ) (h : 0 < N) : 0 < wsum σ (fun _ => 1) M N :=
  Finset.sum_pos (fun k _ => by simpa using Real.exp_pos _) ⟨0, Finset.mem_range.2 h⟩

/-- The quotient of the two sums does not depend on the shift. -/
theorem wsum_div (σ w : ℕ → ℝ) (M : ℝ) (N : ℕ) : wsum σ w M N / wsum σ (fun _ => 1) M N = att σ w N := by
  unfold att
  rw [← wsum_shift σ w 0 M, ← wsum_shift σ _ 0 M, mul_div_mul_left _ _ (Real.exp_ne_zero _)]

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem exp_coe (x : ℝ) : Ideal.exp (x : EReal) = ((Real.exp x : ℝ) : EReal) := rfl

theorem exp_bot : Ideal.exp (⊥ : EReal) = 0 := rfl

theorem div_coe (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem negInf : Ideal.ofBits .f32 0xFF800000#32 = (⊥ : EReal) := by
  simp [Ideal.ofBits, Ideal.ieee]

/-- A pattern whose exponent is not all ones is a real number. -/
theorem ofBits_real (b : BitVec 32) (h : (b.extractLsb' 23 8).toNat ≠ 255) : ∃ x : ℝ, Ideal.ofBits .f32 b = (x : EReal) := by
  by_cases h0 : (b.extractLsb' 23 8).toNat = 0
  · exact ⟨_, by simp only [Ideal.ofBits, Ideal.ieee]; rw [if_neg (by simpa using h), if_pos h0]⟩
  · exact ⟨_, by simp only [Ideal.ofBits, Ideal.ieee]; rw [if_neg (by simpa using h), if_neg h0]⟩

/-- A maximum taken from −∞ over values below +∞ lies below +∞. -/
theorem fold_lt_top {n : ℕ} (s : Fin n → EReal) (hs : ∀ k, s k ≠ ⊤) : Finset.fold max (⊥ : EReal) s Finset.univ < ⊤ :=
  (Finset.fold_max_lt _).2 ⟨bot_lt_top, fun k _ => lt_top_iff_ne_top.2 (hs k)⟩

/-- The maximum of a real number and of values below +∞ is a real number. -/
theorem max_real {n : ℕ} (x : ℝ) (s : Fin n → EReal) (hs : ∀ k, s k ≠ ⊤) :
    ∃ M : ℝ, max (x : EReal) (Finset.fold max (⊥ : EReal) s Finset.univ) = (M : EReal) := by
  have h1 : max (x : EReal) (Finset.fold max (⊥ : EReal) s Finset.univ) < ⊤ := max_lt (EReal.coe_lt_top x) (fold_lt_top s hs)
  have h2 : (⊥ : EReal) < max (x : EReal) (Finset.fold max (⊥ : EReal) s Finset.univ) := lt_max_of_lt_left (EReal.bot_lt_coe x)
  exact ⟨_, (EReal.coe_toReal h1.ne h2.ne').symm⟩

/-- The maximum of values below +∞, one of them real, is a real number. -/
theorem fold_real {n : ℕ} (s : Fin n → EReal) (hs : ∀ k, s k ≠ ⊤) (k : Fin n) (hk : s k ≠ ⊥) :
    ∃ M : ℝ, Finset.fold max (⊥ : EReal) s Finset.univ = (M : EReal) := by
  have h2 : s k ≤ Finset.fold max (⊥ : EReal) s Finset.univ := (Finset.le_fold_max _).2 (Or.inr ⟨k, Finset.mem_univ k, le_rfl⟩)
  exact ⟨_, (EReal.coe_toReal (fold_lt_top s hs).ne ((bot_lt_iff_ne_bot.2 hk).trans_le h2).ne').symm⟩

/-- THE PLAIN FORM. Scores of the keys after `Q` masked to −∞, one maximum, the exponentials over their sum: its
    product with the values of `n` keys is `att` of the first `Q + 1`. Stated of the sums that are real numbers. -/
theorem plain {n : ℕ} (σ : ℕ → ℝ) (Q : ℕ) (hQ : Q < n) :
    ∃ p : Fin n → ℝ,
      (∀ k : Fin n, Ideal.div (Ideal.exp ((if k.val ≤ Q then (σ k.val : EReal) else ⊥) - Finset.fold max (⊥ : EReal) (fun k : Fin n => if k.val ≤ Q then (σ k.val : EReal) else ⊥) Finset.univ))
          (∑ l : Fin n, Ideal.exp ((if l.val ≤ Q then (σ l.val : EReal) else ⊥) - Finset.fold max (⊥ : EReal) (fun k : Fin n => if k.val ≤ Q then (σ k.val : EReal) else ⊥) Finset.univ)) = (p k : EReal)) ∧
      ∀ w : ℕ → ℝ, ∑ k : Fin n, w k.val * p k = att σ w (Q + 1) := by
  obtain ⟨M, hM⟩ := fold_real (fun k : Fin n => if k.val ≤ Q then (σ k.val : EReal) else ⊥)
    (fun k => by split <;> simp) ⟨Q, hQ⟩ (by simp)
  have he : ∀ k : Fin n, Ideal.exp ((if k.val ≤ Q then (σ k.val : EReal) else ⊥) - (M : EReal)) = ((if k.val ≤ Q then Real.exp (σ k.val - M) else 0 : ℝ) : EReal) := by
    intro k
    split
    · rw [← EReal.coe_sub, exp_coe]
    · rw [EReal.bot_sub, exp_bot]; rfl
  have hl : ∑ l : Fin n, (if l.val ≤ Q then Real.exp (σ l.val - M) else 0 : ℝ) = wsum σ (fun _ => 1) M (Q + 1) := by
    rw [sum_upto n Q hQ (fun i => Real.exp (σ i - M)), Fin.sum_univ_eq_sum_range (fun i => Real.exp (σ i - M))]
    exact Finset.sum_congr rfl fun _ _ => (one_mul _).symm
  refine ⟨fun k => (if k.val ≤ Q then Real.exp (σ k.val - M) else 0) / wsum σ (fun _ => 1) M (Q + 1), fun k => ?_, fun w => ?_⟩
  · rw [hM]
    simp only [he]
    rw [coe_sum, hl, div_coe _ _ (wsum_pos σ M _ (Nat.succ_pos _)).ne']
  · rw [← wsum_div σ w M]
    simp only [← mul_div_assoc]
    rw [← Finset.sum_div]
    congr 1
    simp only [mul_ite, mul_zero]
    rw [sum_upto n Q hQ (fun i => w i * Real.exp (σ i - M)), Fin.sum_univ_eq_sum_range (fun i => w i * Real.exp (σ i - M))]
    rfl

end Cert.Softmax

end
-- ==== Proof.Recalling.lean ====
module

public import proofs.«01_k».proof.Proof.Softmax
public import Idealize.ShloMosaic.Lib.Pointwise

/-! Attention over the memory: the softmax-weighted mean of its values, with the division before or after the sum. -/

@[expose] public section

noncomputable section

open Idealize.ShloMosaic

namespace Cert.Recalling
open Cert.Softmax

/-- The exponential of a score less the greatest one. -/
def weight {n : ℕ} (s : Fin n → EReal) (k : Fin n) : EReal := Ideal.exp (s k - Finset.fold max (⊥ : EReal) s Finset.univ)

/-- The values' sum by their weights, over the sum of the weights. -/
def mean {n : ℕ} (s v : Fin n → EReal) : EReal := Ideal.div (∑ k, weight s k * v k) (∑ k, weight s k)

/-- A real factor that is not negative goes into a sum. -/
theorem sum_mul_real {ι : Type} (s : Finset ι) (f : ι → EReal) (x : ℝ) (hx : 0 ≤ x) : (∑ i ∈ s, f i) * (x : EReal) = ∑ i ∈ s, f i * (x : EReal) := by
  classical
  induction s using Finset.induction_on with
  | empty => simp
  | insert a s h ih =>
    rw [Finset.sum_insert h, Finset.sum_insert h, ← ih]
    exact EReal.right_distrib_of_nonneg_of_ne_top (EReal.coe_nonneg.2 hx) (EReal.coe_ne_top x) _ _

/-- Weights divided by their sum first, for real scores and any values. -/
theorem mean_eq {n : ℕ} (s v : Fin n → EReal) (hn : 0 < n) (hs : ∀ k, ∃ x : ℝ, s k = (x : EReal)) :
    ∑ k, v k * Ideal.div (weight s k) (∑ l, weight s l) = mean s v := by
  choose σ hσ using hs
  obtain ⟨M, hM⟩ := fold_real s (fun k => by rw [hσ]; exact EReal.coe_ne_top _) ⟨0, hn⟩ (by rw [hσ]; exact EReal.coe_ne_bot _)
  have hw : ∀ k, weight s k = ((Real.exp (σ k - M) : ℝ) : EReal) := fun k => by
    unfold weight; rw [hM, hσ, ← EReal.coe_sub, exp_coe]
  have hl : 0 < ∑ k, Real.exp (σ k - M) := Finset.sum_pos (fun _ _ => Real.exp_pos _) ⟨⟨0, hn⟩, Finset.mem_univ _⟩
  unfold mean
  simp only [hw, coe_sum]
  unfold Ideal.div
  have h0 : ((∑ k, Real.exp (σ k - M) : ℝ) : EReal) ≠ 0 := by exact_mod_cast hl.ne'
  simp only [if_neg h0]
  rw [← EReal.coe_inv, sum_mul_real _ _ _ (inv_nonneg.2 hl.le)]
  refine Finset.sum_congr rfl fun k _ => ?_
  rw [← mul_assoc, mul_comm (v k)]

/-- The score of row `R` and memory place `n` in the head that column `C` lies in. -/
def score (q : (⟨2, ![16384, 512]⟩ : Shape).Idx → EReal) (kv : (⟨3, ![4, 256, 1024]⟩ : Shape).Idx → EReal) (R : Fin 16384) (C : Fin 512) (n : Fin 256) : EReal :=
  (∑ x : Fin 128, q (ix2 R (⟨C.val / 128 * 128 + x.val, by omega⟩ : Fin 512)) *
    kv (ix3 (⟨R.val / 4096, by omega⟩ : Fin 4) n (⟨C.val / 128 * 128 + x.val, by omega⟩ : Fin 1024))) * Ideal.ofBits .f32 1035273459#32

/-- The attention of each row over its sequence's memory. -/
def attend (q : (⟨2, ![16384, 512]⟩ : Shape).Idx → EReal) (kv : (⟨3, ![4, 256, 1024]⟩ : Shape).Idx → EReal) : (⟨2, ![16384, 512]⟩ : Shape).Idx → EReal := fun i =>
  have h0 : (i 0).val < 16384 := (i 0).isLt
  have h1 : (i 1).val < 512 := (i 1).isLt
  mean (score q kv (i 0) (i 1)) fun n => kv (ix3 (⟨(i 0).val / 4096, by omega⟩ : Fin 4) n (⟨512 + (i 1).val, by omega⟩ : Fin 1024))

theorem attend_at (q : (⟨2, ![16384, 512]⟩ : Shape).Idx → EReal) (kv : (⟨3, ![4, 256, 1024]⟩ : Shape).Idx → EReal) (R : Fin 16384) (C : Fin 512) :
    attend q kv (ix2 R C) = mean (score q kv R C) fun n => kv (ix3 (⟨R.val / 4096, by omega⟩ : Fin 4) n (⟨512 + C.val, by omega⟩ : Fin 1024)) := rfl

/-- The queries and the memory's keys are real numbers. -/
def RealScores (q : (⟨2, ![16384, 512]⟩ : Shape).Idx → EReal) (kv : (⟨3, ![4, 256, 1024]⟩ : Shape).Idx → EReal) : Prop :=
  (∀ i, ∃ x : ℝ, q i = (x : EReal)) ∧
    ∀ (b : Fin 4) (n : Fin 256) (d : Fin 512), ∃ x : ℝ, kv (ix3 b n (⟨d.val, Nat.lt_of_lt_of_le d.isLt (by norm_num)⟩ : Fin 1024)) = (x : EReal)

theorem score_real (q : (⟨2, ![16384, 512]⟩ : Shape).Idx → EReal) (kv : (⟨3, ![4, 256, 1024]⟩ : Shape).Idx → EReal) (h : RealScores q kv)
    (R : Fin 16384) (C : Fin 512) (n : Fin 256) : ∃ x : ℝ, score q kv R C n = (x : EReal) := by
  obtain ⟨y, hy⟩ := ofBits_real 1035273459#32 (by decide)
  choose f hf using h.1
  choose g hg using h.2
  have hk : ∀ x : Fin 128, kv (ix3 (⟨R.val / 4096, by omega⟩ : Fin 4) n (⟨C.val / 128 * 128 + x.val, by omega⟩ : Fin 1024)) =
      (g ⟨R.val / 4096, by omega⟩ n ⟨C.val / 128 * 128 + x.val, by omega⟩ : EReal) := fun x => hg _ n ⟨C.val / 128 * 128 + x.val, by omega⟩
  unfold score
  simp only [hf, hk, hy, ← EReal.coe_mul, coe_sum]
  exact ⟨_, rfl⟩

end Cert.Recalling
end
-- ==== Proof.RecallPoint.lean ====
module

public import proofs.«01_k».proof.Proof.Gen.RecallIdeal.Value
public import proofs.«01_k».proof.Proof.Recalling
public import Idealize.ShloMosaic.Lib.StableHlo.ReadAt
public import Idealize.ShloMosaic.Lib.Pointwise
public import Idealize.ShloMosaic.Lib.Tactic
public import Idealize.ShloMosaic.Lib.Pipeline.ValueKit

/-! The attention over the memory: the block that a grid point writes head by head, and the whole array. -/

@[expose] public section

set_option maxRecDepth 16384

noncomputable section

open Idealize.ShloMosaic Idealize.ShloMosaic.TcCoe Idealize.SL.Sem

namespace Cert.RecallIdeal.Value
open Cert.RecallIdeal Cert.RecallIdeal.Gen Cert.Recalling

section
variable (x0 : Vec Ideal S512x512 .f32) (x1 : Vec Ideal S1x256x1024 .f32)

/-- One head's payload. -/
theorem head_at (q : Vec Ideal S512x128 .f32) (k v : Vec Ideal S1x256x128 .f32) (a : Fin 512) (d : Fin 128) :
    k0_pay2 q k v (ix2 a d) =
      mean (fun n => (∑ x : Fin 128, (show EReal from q (ix2 a x)) * (show EReal from k (ix3 0 n x))) * Ideal.ofBits .f32 1035273459#32) (fun n => v (ix3 0 n d)) := by
  pointwise [k0_pay2, mean, weight]
  rw [Softmax.negInf]

/-- The block as a function of its index. -/
def blockMean (i : S512x512.Idx) : EReal :=
  have h1 : (i 1).val < 512 := (i 1).isLt
  mean (fun n : Fin 256 => (∑ x : Fin 128, (show EReal from x0 (ix2 (i 0) (⟨(i 1).val / 128 * 128 + x.val, by omega⟩ : Fin 512))) *
      (show EReal from x1 (ix3 0 n (⟨(i 1).val / 128 * 128 + x.val, by omega⟩ : Fin 1024)))) * Ideal.ofBits .f32 1035273459#32)
    (fun n => x1 (ix3 0 n (⟨512 + (i 1).val, by omega⟩ : Fin 1024)))

theorem blockMean_at (a d : Fin 512) : blockMean x0 x1 (ix2 a d) =
    mean (fun n : Fin 256 => (∑ x : Fin 128, (show EReal from x0 (ix2 a (⟨d.val / 128 * 128 + x.val, by omega⟩ : Fin 512))) *
      (show EReal from x1 (ix3 0 n (⟨d.val / 128 * 128 + x.val, by omega⟩ : Fin 1024)))) * Ideal.ofBits .f32 1035273459#32)
    (fun n => x1 (ix3 0 n (⟨512 + d.val, by omega⟩ : Fin 1024))) := rfl

/-- What head `h` stores is its part of the block. -/
theorem head_part (h : ℕ) (hh : h < 4) (o1 : Fin 2 → ℕ) (o2 o3 : Fin 3 → ℕ) (e1 : o1 = ![0, h * 128]) (e2 : o2 = ![0, 0, h * 128]) (e3 : o3 = ![0, 0, 512 + h * 128])
    (i1 : ∀ a, o1 a + S512x128.size a ≤ S512x512.size a) (i2 : ∀ a, o2 a + S1x256x128.size a ≤ S1x256x1024.size a)
    (i3 : ∀ a, o3 a + S1x256x128.size a ≤ S1x256x1024.size a) (y : S512x128.Idx) :
    k0_pay2 (View.ld (Val := Elt Ideal) (e' := .f32) x0 (Rect.unit (s := S512x512) o1 S512x128.size i1))
      (View.ld (Val := Elt Ideal) (e' := .f32) x1 (Rect.unit (s := S1x256x1024) o2 S1x256x128.size i2))
      (View.ld (Val := Elt Ideal) (e' := .f32) x1 (Rect.unit (s := S1x256x1024) o3 S1x256x128.size i3)) y
      = blockMean x0 x1 ((Rect.unit (s := S512x512) o1 S512x128.size i1).emb y) := by
  subst e1 e2 e3
  idx_vars y
  have c : (Rect.unit (s := S512x512) ![0, h * 128] S512x128.size i1).emb (ix2 y0 y1) = ix2 y0 (⟨h * 128 + y1.val, by omega⟩ : Fin 512) := by
    funext a
    fin_cases a
    · exact Fin.ext (show 0 + 1 * y0.val = y0.val by omega)
    · exact Fin.ext (show h * 128 + 1 * y1.val = h * 128 + y1.val by omega)
  have lq : ∀ x : Fin 128, View.ld (Val := Elt Ideal) (e' := .f32) x0 (Rect.unit (s := S512x512) ![0, h * 128] S512x128.size i1) (ix2 y0 x) =
      x0 (ix2 y0 (⟨(h * 128 + y1.val) / 128 * 128 + x.val, by omega⟩ : Fin 512)) := fun x => by
    refine congrArg x0 (funext fun a => ?_)
    fin_cases a
    · exact Fin.ext (show 0 + 1 * y0.val = y0.val by omega)
    · exact Fin.ext (show h * 128 + 1 * x.val = (h * 128 + y1.val) / 128 * 128 + x.val by omega)
  have lk : ∀ (n : Fin 256) (x : Fin 128), View.ld (Val := Elt Ideal) (e' := .f32) x1 (Rect.unit (s := S1x256x1024) ![0, 0, h * 128] S1x256x128.size i2) (ix3 0 n x) =
      x1 (ix3 0 n (⟨(h * 128 + y1.val) / 128 * 128 + x.val, by omega⟩ : Fin 1024)) := fun n x => by
    refine congrArg x1 (funext fun a => ?_)
    fin_cases a
    · rfl
    · exact Fin.ext (show 0 + 1 * n.val = n.val by omega)
    · exact Fin.ext (show h * 128 + 1 * x.val = (h * 128 + y1.val) / 128 * 128 + x.val by omega)
  have lv : ∀ n : Fin 256, View.ld (Val := Elt Ideal) (e' := .f32) x1 (Rect.unit (s := S1x256x1024) ![0, 0, 512 + h * 128] S1x256x128.size i3) (ix3 0 n y1) =
      x1 (ix3 0 n (⟨512 + (h * 128 + y1.val), by omega⟩ : Fin 1024)) := fun n => by
    refine congrArg x1 (funext fun a => ?_)
    fin_cases a
    · rfl
    · exact Fin.ext (show 0 + 1 * n.val = n.val by omega)
    · exact Fin.ext (show 512 + h * 128 + 1 * y1.val = 512 + (h * 128 + y1.val) by omega)
  rw [head_at, c]
  simp only [lq, lk, lv]
  rfl

/-- The whole block. -/
theorem out_at (y : S512x512.Idx) : out0_2 x0 x1 y = blockMean x0 x1 y := by
  unfold out0_2
  refine View.canon_apply_of_pieces (Val := Elt Ideal) (e := .f32) (blockMean x0 x1) _ ?_ y (cover0_2 _ _ _ _ y)
  intro p hp
  simp only [List.mem_cons, List.not_mem_nil, or_false] at hp
  rcases hp with rfl | rfl | rfl | rfl
  · exact fun x => head_part x0 x1 3 (by norm_num) _ _ _ rfl rfl rfl _ _ _ x
  · exact fun x => head_part x0 x1 2 (by norm_num) _ _ _ rfl rfl rfl _ _ _ x
  · exact fun x => head_part x0 x1 1 (by norm_num) _ _ _ rfl rfl rfl _ _ _ x
  · exact fun x => head_part x0 x1 0 (by norm_num) _ _ _ rfl rfl rfl _ _ _ x
end

section
variable (m : (ℓ : Loc nD τ sig) → Buf (Elt Ideal) ℓ) (c : Dev nD) (t : Fin cfg0.N)

/-- Every grid point has its own 512 rows, and the memory of their sequence. -/
theorem idx : ∀ t : Fin cfg0.N, win0_0.index t = ![t.val, 0] ∧ win0_1.index t = ![t.val / 8, 0, 0] ∧ win0_2.index t = ![t.val, 0] := by decide +kernel

theorem q_block (a d : Fin 512) :
    iblk m c 0 t (ix2 a d) = m (c, Proc.devRef .tc main_arg0) (ix2 (⟨t.val * 512 + a.val, by have h : t.val < 32 := t.isLt; omega⟩ : Fin 16384) d) := by
  blk_simp [iblk, V]
  after_reads_simp
  blk_ext [idx t]

theorem kv_block (n : Fin 256) (d : Fin 1024) :
    iblk m c 1 t (ix3 0 n d) = m (c, Proc.devRef .tc main_arg1) (ix3 (⟨t.val / 8, by have h : t.val < 32 := t.isLt; omega⟩ : Fin 4) n d) := by
  blk_simp [iblk, V]
  after_reads_simp
  blk_ext [idx t]

/-- The whole array that the kernel leaves. -/
theorem final : (dats m 0 c).arrAt 2 cfg0.N = attend (m (c, Proc.devRef .tc main_arg0)) (m (c, Proc.devRef .tc main_arg1)) := by
  refine (dats m 0 c).arrAt_eq_of_covers 2 _ (by decide +kernel) fun t _ y => ?_
  blk_simp
  rw [after0_2]
  idx_vars y
  have ht : t.val < 32 := t.isLt
  have place : ((View.whole main_v0).slice (win0_2.rect t)).emb (ix2 y0 y1) = ix2 (⟨t.val * 512 + y0.val, by omega⟩ : Fin 16384) y1 := by
    blk_ext [idx t]
  have hb : (⟨t.val / 8, by omega⟩ : Fin 4) = ⟨(t.val * 512 + y0.val) / 4096, by omega⟩ := Fin.ext (by simp only; omega)
  rw [congrArg (attend _ _) place, attend_at, out_at, blockMean_at]
  unfold score
  simp only [q_block, kv_block, hb]
end

end Cert.RecallIdeal.Value
end
-- ==== Proof.LoopState.lean ====
module

public import proofs.«01_k».proof.Proof.Gen.KernelIdeal.Frame
public import Idealize.ShloMosaic.Lib.Pipeline.ValueKit
public import Idealize.ShloMosaic.Lib.Pointwise
public import Idealize.ShloMosaic.Lib.Tactic
public import Idealize.ShloMosaic.Lib.VecWindow

/-! The running state of the attention's loop over key tiles. One trip turns the running maximum, the running sum of
weights and the weighted sum of values into the next ones; the loop's stores leave exactly the state after its trips. -/

@[expose] public section

set_option maxRecDepth 16384

noncomputable section

open Idealize.ShloMosaic Idealize.ShloMosaic.TcCoe Idealize.SL.Sem

namespace Cert.KernelIdeal.Value
open Cert.KernelIdeal Cert.KernelIdeal.Gen

/-- The running maximum, sum of weights and weighted sum of values, of 1024 query lanes. -/
abbrev St := FVec Ideal S1x1024 .f32 × FVec Ideal S1x1024 .f32 × FVec Ideal S128x1024 .f32

/-- Rows `512 j … 512 j + 511` of the keys or values. -/
def tile (x : Vec Ideal S4096x128 .f32) (j : ℕ) : Vec Ideal S512x128 .f32 :=
  fun y => x (ix2 (⟨(512 * j + (y 0).val) % 4096, Nat.mod_lt _ (by norm_num)⟩ : Fin 4096) (y 1))

/-- What one trip makes of the state, from the queries `q` and one tile of keys and of values. -/
def step (q : FVec Ideal S1024x128 .bf16) (kt vt : Vec Ideal S512x128 .f32) (s : St) : St :=
  (k0_pay8 q kt s.1, k0_pay6 q kt s.1 s.2.1, k0_pay7 q kt vt s.1 s.2.2)

/-- The state before the first trip. -/
def start : St := (k0_pay17, k0_pay19 k0_pay18, k0_pay20)

/-- The state after `n` trips over the first `n` tiles. -/
def states (q : FVec Ideal S1024x128 .bf16) (x3 x4 : Vec Ideal S4096x128 .f32) : ℕ → St
  | 0 => start
  | n + 1 => step q (tile x3 n) (tile x4 n) (states q x3 x4 n)

/-- The first loop makes as many trips as the query tile's number, the second none. -/
theorem trips : ∀ t : Fin grid0.N, (k0_t1_loop (grid0.coords t)).trips = (grid0.coords t 2).val ∧
    (k0_t2_loop (grid0.coords t)).trips = 0 := by decide +kernel

/-- Trip `k` reads the rows from `512 k` on. -/
theorem off1 : ∀ t : Fin grid0.N, ∀ k : Fin (k0_t1_loop (grid0.coords t)).trips,
    k0_off1 (grid0.coords t) k = ![512 * k.val, 0] := by decide +kernel

/-- The last step reads the rows of the query tile's own number. -/
theorem off3 : ∀ t : Fin grid0.N, k0_off3 (grid0.coords t) = ![512 * (grid0.coords t 2).val, 0] := by decide +kernel

theorem hz : (![0, 0] : Fin 2 → ℕ) = fun _ => 0 := by funext a; fin_cases a <;> rfl

/-- A load of 512 rows at `512 j` is tile `j`. -/
theorem ld_tile (x : Vec Ideal S4096x128 .f32) (j : ℕ) (hj : j < 8) (off : Fin 2 → ℕ) (h : off = ![512 * j, 0])
    (inb : ∀ a, off a + S512x128.size a ≤ S4096x128.size a) :
    View.ld (Val := Elt Ideal) (e' := .f32) x (Rect.unit (s := S4096x128) off S512x128.size inb) = tile x j := by
  subst h
  funext y
  refine congrArg x (funext fun a => Fin.ext ?_)
  have h0 : (y 0).val < 512 := (y 0).isLt
  match a with
  | ⟨0, _⟩ =>
    show 512 * j + 1 * (y 0).val = (512 * j + (y 0).val) % 4096
    rw [Nat.mod_eq_of_lt (by omega)]; omega
  | ⟨1, _⟩ => show 0 + 1 * (y 1).val = (y 1).val; omega

section
variable (c : Dev nD) (t : Fin grid0.N) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (q : FVec Ideal S1024x128 .bf16) (a b : BitVec 32)

/-- The stores of the trips before `k`, as the run lists them. -/
abbrev stores (x3 x4 : Vec Ideal S4096x128 .f32) (G11 : BufTy.Contents (Elt Ideal) arg11.view.ty) (G12 : BufTy.Contents (Elt Ideal) arg12.view.ty) (G13 : BufTy.Contents (Elt Ideal) arg13.view.ty) (k : ℕ) :=
  pb_k0_t1 (F := Ideal) Variants.none c none (grid0.coords t) arg3 harg3 arg4 harg4 arg5 harg5 arg6 harg6 arg7 harg7 arg8 harg8 arg9 harg9 arg10 harg10 arg11 harg11 arg12 harg12 arg13 harg13 q a b (harg6.unread x3) (harg7.unread x4) G11 G12 G13 k

/-- What one trip stores, with its loads read. -/
theorem trip_eq (x3 x4 : Vec Ideal S4096x128 .f32) (k : Fin (k0_t1_loop (grid0.coords t)).trips) (f11 : BufTy.Contents (Elt Ideal) arg11.view.ty) (f12 : BufTy.Contents (Elt Ideal) arg12.view.ty) (f13 : BufTy.Contents (Elt Ideal) arg13.view.ty) :
    tripL_k0_t1 (F := Ideal) Variants.none c none (grid0.coords t) arg3 harg3 arg4 harg4 arg5 harg5 arg6 harg6 arg7 harg7 arg8 harg8 arg9 harg9 arg10 harg10 arg11 harg11 arg12 harg12 arg13 harg13 q a b (harg6.unread x3) (harg7.unread x4) k f11 f12 f13
      = ([⟨Rect.unit ![0, 0] S1x1024.size inb_S1x1024_S1x1024_0_0, (step q (tile x3 k.val) (tile x4 k.val) (arg11.view.read (Elt Ideal) f11, arg12.view.read (Elt Ideal) f12, arg13.view.read (Elt Ideal) f13)).1⟩],
         [⟨Rect.unit ![0, 0] S1x1024.size inb_S1x1024_S1x1024_0_0, (step q (tile x3 k.val) (tile x4 k.val) (arg11.view.read (Elt Ideal) f11, arg12.view.read (Elt Ideal) f12, arg13.view.read (Elt Ideal) f13)).2.1⟩],
         [⟨Rect.unit ![0, 0] S128x1024.size inb_S128x1024_S128x1024_0_0, (step q (tile x3 k.val) (tile x4 k.val) (arg11.view.read (Elt Ideal) f11, arg12.view.read (Elt Ideal) f12, arg13.view.read (Elt Ideal) f13)).2.2⟩]) := by
  have hk : k.val < 8 := lt_of_lt_of_le k.isLt (by rw [(trips t).1]; exact (grid0.coords t 2).isLt.le)
  unfold tripL_k0_t1 trip_k0_t1
  dsimp only
  sl_unfold_run_names
  unfold step
  simp only [View.readAt_eq_ld, harg6.read_unread, harg7.read_unread, ld_tile _ _ hk _ (off1 t k)]
  rw [View.ld_unit_zero (S := S1x1024) hz, View.ld_unit_zero (S := S128x1024) hz, View.ld_unit_zero (S := S1x1024) hz]

/-- Before trip `n` the three scratch buffers hold the state after `n` trips. -/
theorem loop_state (x3 x4 : Vec Ideal S4096x128 .f32) (G11 : BufTy.Contents (Elt Ideal) arg11.view.ty) (G12 : BufTy.Contents (Elt Ideal) arg12.view.ty) (G13 : BufTy.Contents (Elt Ideal) arg13.view.ty)
    (h11 : arg11.view.read (Elt Ideal) G11 = start.1) (h12 : arg12.view.read (Elt Ideal) G12 = start.2.1) (h13 : arg13.view.read (Elt Ideal) G13 = start.2.2) :
    ∀ n : ℕ, n ≤ (k0_t1_loop (grid0.coords t)).trips →
      arg11.view.read (Elt Ideal) (arg11.view.writes (Elt Ideal) G11 (stores c t arg3 harg3 arg4 harg4 arg5 harg5 arg6 harg6 arg7 harg7 arg8 harg8 arg9 harg9 arg10 harg10 arg11 harg11 arg12 harg12 arg13 harg13 q a b x3 x4 G11 G12 G13 n).1) = (states q x3 x4 n).1 ∧
      arg12.view.read (Elt Ideal) (arg12.view.writes (Elt Ideal) G12 (stores c t arg3 harg3 arg4 harg4 arg5 harg5 arg6 harg6 arg7 harg7 arg8 harg8 arg9 harg9 arg10 harg10 arg11 harg11 arg12 harg12 arg13 harg13 q a b x3 x4 G11 G12 G13 n).2.1) = (states q x3 x4 n).2.1 ∧
      arg13.view.read (Elt Ideal) (arg13.view.writes (Elt Ideal) G13 (stores c t arg3 harg3 arg4 harg4 arg5 harg5 arg6 harg6 arg7 harg7 arg8 harg8 arg9 harg9 arg10 harg10 arg11 harg11 arg12 harg12 arg13 harg13 q a b x3 x4 G11 G12 G13 n).2.2) = (states q x3 x4 n).2.2
  | 0, _ => ⟨h11, h12, h13⟩
  | n + 1, hn => by
    obtain ⟨i1, i2, i3⟩ := loop_state x3 x4 G11 G12 G13 h11 h12 h13 n (by omega)
    have e := pb_k0_t1_succ (F := Ideal) Variants.none c none (grid0.coords t) arg3 harg3 arg4 harg4 arg5 harg5 arg6 harg6 arg7 harg7 arg8 harg8 arg9 harg9 arg10 harg10 arg11 harg11 arg12 harg12 arg13 harg13 q a b (harg6.unread x3) (harg7.unread x4) G11 G12 G13 ⟨n, by omega⟩
    rw [trip_eq c t arg3 harg3 arg4 harg4 arg5 harg5 arg6 harg6 arg7 harg7 arg8 harg8 arg9 harg9 arg10 harg10 arg11 harg11 arg12 harg12 arg13 harg13 q a b x3 x4 ⟨n, by omega⟩, i1, i2, i3] at e
    unfold stores
    dsimp only at e ⊢
    rw [e]
    dsimp only [List.cons_append, List.nil_append]
    exact ⟨View.read_writes_full _ _ _ _ _, View.read_writes_full _ _ _ _ _, View.read_writes_full _ _ _ _ _⟩
end
end Cert.KernelIdeal.Value
end
-- ==== Proof.OutState.lean ====
module

public import proofs.«01_k».proof.Proof.Gen.KernelIdeal.Frame
public import proofs.«01_k».proof.Proof.LoopState
public import Idealize.ShloMosaic.Lib.Pipeline.ValueKit
public import Idealize.ShloMosaic.Lib.Pointwise
public import Idealize.ShloMosaic.Lib.Tactic
public import Idealize.ShloMosaic.Lib.VecWindow

/-! What one grid point leaves in its output block: the running state after the trips over the tiles before the query
tile, one masked step over the tile itself, and the finish. -/

@[expose] public section

set_option maxRecDepth 16384

noncomputable section

open Idealize.ShloMosaic Idealize.ShloMosaic.TcCoe Idealize.SL.Sem

namespace Cert.KernelIdeal.Value
open Cert.KernelIdeal Cert.KernelIdeal.Gen

/-- The sum of weights after the masked step over the query tile's own keys. -/
def lastL (q : FVec Ideal S1024x128 .bf16) (kt : Vec Ideal S512x128 .f32) (s : St) : FVec Ideal S1x1024 .f32 :=
  k0_pay26 q kt s.1 s.2.1

/-- The weighted sum of values after the masked step over the query tile's own keys. -/
def lastA (q : FVec Ideal S1024x128 .bf16) (kt vt : Vec Ideal S512x128 .f32) (s : St) : FVec Ideal S128x1024 .f32 :=
  k0_pay28 (k0_pay27 q kt vt s.1 s.2.2)

/-- The block from the weighted sum, the sum of weights, the lambda vectors and the norm's gain. -/
def finish (acc : FVec Ideal S128x1024 .f32) (l : FVec Ideal S1x1024 .f32) (x5 : Vec Ideal S4x64 .f32) (x6 : Vec Ideal S1x128 .f32) :
    FVec Ideal S512x128 .f32 :=
  k0_pay1 (k0_pay30 x6) (k0_pay31 acc l x5) (k0_pay32 acc l x5) (Scalar.ofBits .f32 0x358637BD#32)

/-- A load of the whole scratch buffer reads the contents it holds after its stores. -/
theorem readCov_eq {S : Shape} {off : Fin S.rank → ℕ} (h : off = fun _ => 0) (v : View sig .tc .vmem S .f32) (L M : List (View.Piece (Elt Ideal) S .f32))
    (inb : ∀ a, off a + S.size a ≤ S.size a) :
    v.readCov (Val := Elt Ideal) (L ++ M) (Rect.unit off S.size inb).toLoadRect
      = v.read (Elt Ideal) (v.writes (Elt Ideal) (v.writes (Elt Ideal) v.junk M) L) := by
  unfold View.readCov
  rw [View.readAt_eq_ld, View.ld_unit_zero h, View.writes_append]

/-- What one grid point leaves in its output block. -/
theorem out_eq (c : Dev nD) (t : Fin grid0.N) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole)
    (x0 x1 x2 : Vec Ideal S512x128 .f32) (x3 x4 : Vec Ideal S4096x128 .f32) (x5 : Vec Ideal S4x64 .f32) (x6 : Vec Ideal S1x128 .f32) :
    out0_A_7 c (grid0.coords t) arg3 harg3 arg4 harg4 arg5 harg5 arg6 harg6 arg7 harg7 arg8 harg8 arg9 harg9 arg10 harg10 arg11 harg11 arg12 harg12 arg13 harg13 x0 x1 x2 x3 x4 x5 x6
      = finish (lastA (k0_pay16 x0 x1 x2) (tile x3 (grid0.coords t 2).val) (tile x4 (grid0.coords t 2).val) (states (k0_pay16 x0 x1 x2) x3 x4 (grid0.coords t 2).val))
          (lastL (k0_pay16 x0 x1 x2) (tile x3 (grid0.coords t 2).val) (states (k0_pay16 x0 x1 x2) x3 x4 (grid0.coords t 2).val)) x5 x6 := by
  have hj : (grid0.coords t 2).val < 8 := (grid0.coords t 2).isLt
  have h1 : Scf.trips (k0_t1_loop (grid0.coords t)).lb (k0_t1_loop (grid0.coords t)).ub (k0_t1_loop (grid0.coords t)).st = (grid0.coords t 2).val := (trips t).1
  have h2 : Scf.trips (k0_t2_loop (grid0.coords t)).lb (k0_t2_loop (grid0.coords t)).ub (k0_t2_loop (grid0.coords t)).st = 0 := (trips t).2
  unfold out0_A_7
  rw [View.read_writes_eq_canon _ _ _ (cover0_A_7 c (grid0.coords t) arg3 harg3 arg4 harg4 arg5 harg5 arg6 harg6 arg7 harg7 arg8 harg8 arg9 harg9 arg10 harg10 arg11 harg11 arg12 harg12 arg13 harg13 x0 x1 x2 x3 x4 x5 x6)]
  unfold kernelRun0_A
  dsimp only
  sl_unfold_run_names
  rw [View.canon_unit_zero hz]
  simp only [h1, h2, pb_k0_t2, List.nil_append, View.readAt_eq_ld, harg3.read_unread, harg4.read_unread, harg5.read_unread, harg6.read_unread, harg7.read_unread, harg8.read_unread, harg9.read_unread,
    ld_tile _ _ hj _ (off3 t), View.readCov_full,
    View.ld_unit_zero (S := S512x128) hz, View.ld_unit_zero (S := S4x64) hz, View.ld_unit_zero (S := S1x128) hz]
  have st := loop_state c t arg3 harg3 arg4 harg4 arg5 harg5 arg6 harg6 arg7 harg7 arg8 harg8 arg9 harg9 arg10 harg10 arg11 harg11 arg12 harg12 arg13 harg13 (k0_pay16 x0 x1 x2) 0#32 1#32 x3 x4
    (arg11.view.writes (Elt Ideal) arg11.view.junk [⟨Rect.unit ![0, 0] S1x1024.size inb_S1x1024_S1x1024_0_0, start.1⟩])
    (arg12.view.writes (Elt Ideal) arg12.view.junk [⟨Rect.unit ![0, 0] S1x1024.size inb_S1x1024_S1x1024_0_0, start.2.1⟩])
    (arg13.view.writes (Elt Ideal) arg13.view.junk [⟨Rect.unit ![0, 0] S128x1024.size inb_S128x1024_S128x1024_0_0, start.2.2⟩])
    (View.read_writes_full _ _ _ _ _) (View.read_writes_full _ _ _ _ _) (View.read_writes_full _ _ _ _ _)
    (grid0.coords t 2).val (trips t).1.ge
  unfold stores at st
  simp only [start] at st
  rw [readCov_eq hz arg11.view, readCov_eq hz arg12.view, readCov_eq hz arg13.view, st.1, st.2.1, st.2.2,
    View.readCov_full (s := S128x1024) arg13.view, View.readCov_full (s := S1x1024) arg12.view]
  rfl
end Cert.KernelIdeal.Value
end
-- ==== Proof.PayReads.lean ====
module

public import proofs.«01_k».proof.Proof.LoopState
public import proofs.«01_k».proof.Proof.OutState
public import proofs.«01_k».proof.Proof.Softmax
public import Idealize.ShloMosaic.Lib.WordCmp
public import Idealize.ShloMosaic.Lib.Pointwise
public import Idealize.ShloMosaic.Lib.Tactic

/-! The kernel's own terms read at an index: the scores of a tile, the next maximum, sum of weights and weighted sum of
values, with and without the mask of the query tile. -/

@[expose] public section

set_option maxRecDepth 16384

noncomputable section

open Idealize.ShloMosaic Idealize.ShloMosaic.TcCoe Idealize.SL.Sem

namespace Cert.KernelIdeal.Value
open Cert.KernelIdeal Cert.KernelIdeal.Gen

/-- The score of key row `k` of a tile for query lane `r`. -/
def score (q : FVec Ideal S1024x128 .bf16) (kt : Vec Ideal S512x128 .f32) (k : Fin 512) (r : Fin 1024) : EReal :=
  ∑ x : Fin 128, (show EReal from kt (ix2 k x)) * (show EReal from q (ix2 r x))

/-- The score of key row `k` of the query tile for lane `r`: a number of its own where the key comes after the query. -/
def mscore (q : FVec Ideal S1024x128 .bf16) (kt : Vec Ideal S512x128 .f32) (k : Fin 512) (r : Fin 1024) : EReal :=
  if k.val ≤ r.val % 512 then score q kt k r else Ideal.ofBits .f32 0xF149F2CA#32

section
variable (q : FVec Ideal S1024x128 .bf16) (kt vt : Vec Ideal S512x128 .f32) (m l : FVec Ideal S1x1024 .f32) (acc : FVec Ideal S128x1024 .f32)
  (k : Fin 512) (r : Fin 1024) (d : Fin 128)

theorem low_bits : ∀ r : Fin 1024, IntOp.andi (BitVec.ofNat 32 r.val) 511#32 = BitVec.ofNat 32 (r.val % 512) := by decide +kernel

/-- The mask of the query tile: key row `k` is not after the query's row. -/
theorem mask_at : k0_pay21 (ix2 k r) = BitVec.ofBool (decide (k.val ≤ r.val % 512)) := by
  have h := low_bits r
  have hr : r.val % 512 < 512 := Nat.mod_lt _ (by norm_num)
  pointwise [k0_pay21]
  rw [h]
  generalize r.val % 512 = p at hr
  word_cmp

theorem select_mask {α : Type} (p : Prop) [Decidable p] (a b : α) : Scalar.select (BitVec.ofBool (decide p)) a b = if p then a else b := by
  by_cases h : p <;> simp [h, Scalar.select]

theorem scores_at : k0_pay2 q kt (ix2 k r) = score q kt k r := by
  pointwise [k0_pay2, score]

theorem max_at : k0_pay3 q kt m (ix2 0 r) = max (show EReal from m (ix2 0 r)) (Finset.fold max (⊥ : EReal) (fun k => score q kt k r) Finset.univ) := by
  pointwise [k0_pay3]
  rw [Softmax.negInf]
  simp only [scores_at]

theorem max_next : k0_pay8 q kt m = k0_pay3 q kt m := by
  funext y; idx_vars y
  pointwise! [k0_pay8]

theorem sum_at : k0_pay6 q kt m l (ix2 0 r)
    = Ideal.exp (show EReal from m (ix2 0 r) - k0_pay3 q kt m (ix2 0 r)) * (show EReal from l (ix2 0 r))
      + ∑ k : Fin 512, Ideal.exp (score q kt k r - (show EReal from k0_pay3 q kt m (ix2 0 r))) := by
  pointwise [k0_pay6, k0_pay5, k0_pay4]
  simp only [scores_at]

theorem acc_at : k0_pay7 q kt vt m acc (ix2 d r)
    = Ideal.exp (show EReal from m (ix2 0 r) - k0_pay3 q kt m (ix2 0 r)) * (show EReal from acc (ix2 d r))
      + ∑ k : Fin 512, (show EReal from vt (ix2 k d)) * Ideal.exp (score q kt k r - (show EReal from k0_pay3 q kt m (ix2 0 r))) := by
  pointwise [k0_pay7, k0_pay5, k0_pay4]
  simp only [scores_at]

theorem mscores_at : k0_pay22 q kt (ix2 k r) = mscore q kt k r := by
  have h := mask_at k r
  pointwise [k0_pay22]
  rw [h, select_mask]
  rfl

theorem mmax_at : k0_pay23 q kt m (ix2 0 r) = max (show EReal from m (ix2 0 r)) (Finset.fold max (⊥ : EReal) (fun k => mscore q kt k r) Finset.univ) := by
  pointwise [k0_pay23]
  rw [Softmax.negInf]
  simp only [mscores_at]

theorem msum_at : k0_pay26 q kt m l (ix2 0 r)
    = Ideal.exp (show EReal from m (ix2 0 r) - k0_pay23 q kt m (ix2 0 r)) * (show EReal from l (ix2 0 r))
      + ∑ k : Fin 512, if k.val ≤ r.val % 512 then Ideal.exp (mscore q kt k r - (show EReal from k0_pay23 q kt m (ix2 0 r))) else 0 := by
  pointwise [k0_pay26, k0_pay25, k0_pay24]
  simp only [mscores_at, mask_at, select_mask]

theorem macc_at : k0_pay28 (k0_pay27 q kt vt m acc) (ix2 d r)
    = Ideal.exp (show EReal from m (ix2 0 r) - k0_pay23 q kt m (ix2 0 r)) * (show EReal from acc (ix2 d r))
      + ∑ k : Fin 512, if k.val ≤ r.val % 512 then (show EReal from vt (ix2 k d)) * Ideal.exp (mscore q kt k r - (show EReal from k0_pay23 q kt m (ix2 0 r))) else 0 := by
  pointwise [k0_pay28, k0_pay27, k0_pay25, k0_pay24]
  simp only [mscores_at, mask_at, select_mask]

theorem start_max : start.1 (ix2 0 r) = Ideal.ofBits .f32 0xF149F2CA#32 := by
  pointwise [start, k0_pay17]

theorem start_sum : start.2.1 (ix2 0 r) = (0 : EReal) := by
  pointwise [start, k0_pay19, k0_pay18]

theorem start_acc : start.2.2 (ix2 d r) = (0 : EReal) := by
  pointwise [start, k0_pay20]

end

end Cert.KernelIdeal.Value
end
-- ==== Proof.Lane.lean ====
module

public import proofs.«01_k».proof.Proof.PayReads
public import Idealize.ShloMosaic.Lib.Pointwise
public import Idealize.ShloMosaic.Lib.Tactic

/-! One query lane of the kernel: its running sums are those of the keys seen so far, so its quotient is softmax over the
keys up to its own position. -/

@[expose] public section

set_option maxRecDepth 16384

noncomputable section

open Idealize.ShloMosaic Idealize.ShloMosaic.TcCoe Idealize.SL.Sem

namespace Cert.KernelIdeal.Value
open Cert.KernelIdeal Cert.KernelIdeal.Gen Cert.Softmax

section
variable (q : FVec Ideal S1024x128 .bf16) (x3 x4 : Vec Ideal S4096x128 .f32) (r : Fin 1024) (d : Fin 128) (σ ν : ℕ → ℝ)
  (hσ : ∀ n : Fin 4096, ∑ x : Fin 128, (show EReal from x3 (ix2 n x)) * (show EReal from q (ix2 r x)) = (σ n.val : EReal))
  (hν : ∀ n : Fin 4096, x4 (ix2 n d) = (ν n.val : EReal))

/-- Row `k` of tile `j` is row `512 j + k`. -/
theorem tile_at (x : Vec Ideal S4096x128 .f32) (j : ℕ) (hj : j < 8) (k : Fin 512) (e : Fin 128) :
    tile x j (ix2 k e) = x (ix2 (⟨512 * j + k.val, by omega⟩ : Fin 4096) e) := by
  refine congrArg x ?_
  show ix2 (⟨(512 * j + k.val) % 4096, _⟩ : Fin 4096) e = _
  congr 2
  exact Nat.mod_eq_of_lt (by omega)

include hσ in
theorem score_tile (j : ℕ) (hj : j < 8) (k : Fin 512) : score q (tile x3 j) k r = (σ (512 * j + k.val) : EReal) := by
  rw [← hσ ⟨512 * j + k.val, by omega⟩]
  unfold score
  simp only [tile_at x3 j hj]

include hν in
theorem value_tile (j : ℕ) (hj : j < 8) (k : Fin 512) : tile x4 j (ix2 k d) = (ν (512 * j + k.val) : EReal) := by
  rw [tile_at x4 j hj]; exact hν _

include hσ hν in
/-- After `n` trips the sums are those of the first `512 n` keys, at one real shift. -/
theorem states_at : ∀ n : ℕ, n ≤ 8 → ∃ M : ℝ,
    (states q x3 x4 n).1 (ix2 0 r) = (M : EReal) ∧
    (states q x3 x4 n).2.1 (ix2 0 r) = (wsum σ (fun _ => 1) M (512 * n) : EReal) ∧
    (states q x3 x4 n).2.2 (ix2 d r) = (wsum σ ν M (512 * n) : EReal)
  | 0, _ => by
    obtain ⟨M, hM⟩ := ofBits_real 0xF149F2CA#32 (by decide)
    exact ⟨M, (start_max r).trans hM, (start_sum r).trans (by simp [wsum]), (start_acc r d).trans (by simp [wsum])⟩
  | n + 1, hn => by
    obtain ⟨M, hm, hl, ha⟩ := states_at n (by omega)
    have hs := score_tile q x3 r σ hσ n (by omega)
    have hv := value_tile x4 d ν hν n (by omega)
    obtain ⟨M', hM'⟩ := max_real M (fun k : Fin 512 => (σ (512 * n + k.val) : EReal)) (fun k => EReal.coe_ne_top _)
    have hm' : k0_pay3 q (tile x3 n) (states q x3 x4 n).1 (ix2 0 r) = (M' : EReal) := by
      rw [max_at, hm]; simp only [hs]; exact hM'
    refine ⟨M', ?_, ?_, ?_⟩
    · show k0_pay8 q (tile x3 n) (states q x3 x4 n).1 (ix2 0 r) = _
      rw [max_next, hm']
    · show k0_pay6 q (tile x3 n) (states q x3 x4 n).1 (states q x3 x4 n).2.1 (ix2 0 r) = _
      rw [sum_at, hm', hm, hl]
      simp only [hs, ← EReal.coe_sub, exp_coe, coe_sum, ← EReal.coe_mul, ← EReal.coe_add]
      rw [Nat.mul_succ, ← wsum_tile σ _ M M']
      simp only [one_mul]
    · show k0_pay7 q (tile x3 n) (tile x4 n) (states q x3 x4 n).1 (states q x3 x4 n).2.2 (ix2 d r) = _
      rw [acc_at, hm', hm, ha]
      simp only [hs, hv, ← EReal.coe_sub, exp_coe, ← EReal.coe_mul, coe_sum, ← EReal.coe_add]
      rw [Nat.mul_succ, ← wsum_tile σ _ M M']

include hσ hν in
/-- After the masked step of query tile `j` the sums are those of the keys up to the lane's own position. -/
theorem last_at (j : ℕ) (hj : j < 8) : ∃ M : ℝ,
    lastL q (tile x3 j) (states q x3 x4 j) (ix2 0 r) = (wsum σ (fun _ => 1) M (512 * j + r.val % 512 + 1) : EReal) ∧
    lastA q (tile x3 j) (tile x4 j) (states q x3 x4 j) (ix2 d r) = (wsum σ ν M (512 * j + r.val % 512 + 1) : EReal) := by
  obtain ⟨M, hm, hl, ha⟩ := states_at q x3 x4 r d σ ν hσ hν j hj.le
  obtain ⟨B, hB⟩ := ofBits_real 0xF149F2CA#32 (by decide)
  have hr : r.val % 512 < 512 := Nat.mod_lt _ (by norm_num)
  have hs : ∀ k : Fin 512, mscore q (tile x3 j) k r = ((if k.val ≤ r.val % 512 then σ (512 * j + k.val) else B : ℝ) : EReal) := by
    intro k
    unfold mscore
    split
    · exact score_tile q x3 r σ hσ j hj k
    · exact hB
  have hv := value_tile x4 d ν hν j hj
  obtain ⟨M', hM'⟩ := max_real M (fun k : Fin 512 => ((if k.val ≤ r.val % 512 then σ (512 * j + k.val) else B : ℝ) : EReal)) (fun k => EReal.coe_ne_top _)
  have hm' : k0_pay23 q (tile x3 j) (states q x3 x4 j).1 (ix2 0 r) = (M' : EReal) := by
    rw [mmax_at, hm]; simp only [hs]; exact hM'
  have hz : (0 : EReal) = ((0 : ℝ) : EReal) := rfl
  refine ⟨M', ?_, ?_⟩
  · unfold lastL
    rw [msum_at, hm', hm, hl]
    have e : ∀ k : Fin 512, (if k.val ≤ r.val % 512 then Ideal.exp (mscore q (tile x3 j) k r - (M' : EReal)) else 0)
        = ((if k.val ≤ r.val % 512 then (1 : ℝ) * Real.exp (σ (512 * j + k.val) - M') else 0 : ℝ) : EReal) := by
      intro k
      split
      · rw [hs, if_pos ‹_›, ← EReal.coe_sub, exp_coe, one_mul]
      · rfl
    simp only [e, ← EReal.coe_sub, exp_coe, ← EReal.coe_mul, coe_sum, ← EReal.coe_add]
    rw [sum_upto 512 _ hr (fun i => (1 : ℝ) * Real.exp (σ (512 * j + i) - M')), wsum_tile σ (fun _ => 1) M M' (512 * j) (r.val % 512 + 1)]
    rfl
  · unfold lastA
    rw [macc_at, hm', hm, ha]
    have e : ∀ k : Fin 512, (if k.val ≤ r.val % 512 then (show EReal from tile x4 j (ix2 k d)) * Ideal.exp (mscore q (tile x3 j) k r - (M' : EReal)) else 0)
        = ((if k.val ≤ r.val % 512 then ν (512 * j + k.val) * Real.exp (σ (512 * j + k.val) - M') else 0 : ℝ) : EReal) := by
      intro k
      split
      · rw [hs, if_pos ‹_›, hv, ← EReal.coe_sub, exp_coe]; exact (EReal.coe_mul _ _).symm
      · rfl
    simp only [e, ← EReal.coe_sub, exp_coe, ← EReal.coe_mul, coe_sum, ← EReal.coe_add]
    rw [sum_upto 512 _ hr (fun i => ν (512 * j + i) * Real.exp (σ (512 * j + i) - M')), wsum_tile σ ν M M' (512 * j) (r.val % 512 + 1)]
    rfl

include hσ hν in
/-- THE LANE. The weighted sum over the sum of weights, as the kernel ends with them, is softmax over the keys up to
    the lane's own position. -/
theorem lane_att (j : ℕ) (hj : j < 8) :
    Ideal.div (lastA q (tile x3 j) (tile x4 j) (states q x3 x4 j) (ix2 d r)) (lastL q (tile x3 j) (states q x3 x4 j) (ix2 0 r))
      = (att σ ν (512 * j + r.val % 512 + 1) : EReal) := by
  obtain ⟨M, hl, ha⟩ := last_at q x3 x4 r d σ ν hσ hν j hj
  rw [hl, ha, div_coe _ _ (wsum_pos σ M _ (Nat.succ_pos _)).ne', wsum_div]

end

end Cert.KernelIdeal.Value
end
-- ==== Proof.Common.lean ====
module

public import proofs.«01_k».proof.Proof.Softmax
public import Idealize.ShloMosaic.Lib.Pointwise

/-! The words the kernel and the plain program are both described in: the rotary angles, the rotated query, the lambda of
the four vectors, the normalised row, and the result in full. -/

@[expose] public section

noncomputable section

open Idealize.ShloMosaic

namespace Cert.Diff
open Cert.Softmax

/-- The rotary angle of position `p` and frequency `i`. -/
def angle (p i : ℕ) : EReal :=
  FloatOps.sitofp (F := Ideal) .f32 (BitVec.ofNat 32 p) *
    Ideal.pow (Ideal.ofBits .f32 1176256512#32) (Ideal.div (-FloatOps.sitofp (F := Ideal) .f32 (BitVec.ofNat 32 i)) (Ideal.ofBits .f32 1107296256#32))

theorem thirtytwo : Ideal.ofBits .f32 1107296256#32 = ((32 : ℝ) : EReal) := by
  simp [Ideal.ofBits, Ideal.ieee]
  rw [← EReal.coe_mul]
  norm_num

theorem angle_real (p i : ℕ) : ∃ a : ℝ, angle p i = (a : EReal) := by
  obtain ⟨x, hx⟩ := ofBits_real 1176256512#32 (by decide)
  unfold angle
  rw [hx, thirtytwo]
  have h : ∀ w : BitVec 32, FloatOps.sitofp (F := Ideal) .f32 w = ((w.toInt : ℝ) : EReal) := fun _ => rfl
  rw [h, h, ← EReal.coe_neg, div_coe _ _ (by norm_num)]
  exact ⟨_, (EReal.coe_mul _ _).symm⟩

/-- The cosine and the sine of an angle, as real numbers. -/
def cs (p i : ℕ) : ℝ := (Ideal.cos (angle p i)).toReal
def sn (p i : ℕ) : ℝ := (Ideal.sin (angle p i)).toReal

theorem cos_angle (p i : ℕ) : Ideal.cos (angle p i) = (cs p i : EReal) := by
  obtain ⟨a, ha⟩ := angle_real p i
  unfold cs; rw [ha]; rfl

theorem sin_angle (p i : ℕ) : Ideal.sin (angle p i) = (sn p i : EReal) := by
  obtain ⟨a, ha⟩ := angle_real p i
  unfold sn; rw [ha]; rfl

/-- Lane `e` of the query `ζ` (two halves of 64 lanes) rotated to position `p`. -/
def rot (ζ : ℕ → ℝ) (p e : ℕ) : ℝ :=
  if e % 64 < 32 then ζ e * cs p (e % 64) - ζ (e + 32) * sn p (e % 64)
  else ζ e * cs p (e % 64 - 32) + ζ (e - 32) * sn p (e % 64 - 32)

/-- The lambda of the four vectors. -/
def lamOf (x : (⟨2, ![4, 64]⟩ : Shape).Idx → EReal) : EReal :=
  Ideal.exp (∑ k : Fin 64, x (ix2 0 k) * x (ix2 1 k)) - Ideal.exp (∑ k : Fin 64, x (ix2 2 k) * x (ix2 3 k)) + Ideal.ofBits .f32 1045220557#32

theorem lamOf_real (x : (⟨2, ![4, 64]⟩ : Shape).Idx → EReal) (hx : ∀ i, ∃ a : ℝ, x i = (a : EReal)) : ∃ a : ℝ, lamOf x = (a : EReal) := by
  choose f hf using hx
  obtain ⟨y, hy⟩ := ofBits_real 1045220557#32 (by decide)
  unfold lamOf
  simp only [hf, hy, ← EReal.coe_mul, coe_sum, exp_coe, ← EReal.coe_sub, ← EReal.coe_add]
  exact ⟨_, rfl⟩

/-- Lane `e` of a row of 128 normalised, times its gain. -/
def normed (o : Fin 128 → EReal) (g : EReal) (e : Fin 128) : EReal :=
  o e * Ideal.rsqrt (Ideal.div (∑ x : Fin 128, o x * o x) (Ideal.ofBits .f32 1124073472#32) + Ideal.ofBits .f32 897988541#32) * g * Ideal.ofBits .f32 1061997773#32

/-- The factor the queries are scaled by. -/
def scale : ℝ := (Ideal.ofBits .f32 1040187392#32).toReal

theorem scale_eq : Ideal.ofBits .f32 1040187392#32 = (scale : EReal) := by
  obtain ⟨x, hx⟩ := ofBits_real 1040187392#32 (by decide)
  unfold scale; rw [hx]; rfl

/-- The queries, keys and lambda vectors as they come. -/
abbrev QArr := (⟨2, ![16384, 3584]⟩ : Shape).Idx → EReal
abbrev KvArr := (⟨2, ![16384, 1024]⟩ : Shape).Idx → EReal
abbrev LamArr := (⟨2, ![4, 64]⟩ : Shape).Idx → EReal
abbrev GainArr := (⟨1, ![128]⟩ : Shape).Idx → EReal

/-- Lane `e` of head `h`'s query at position `p` of sequence `b`, as a real number. -/
def qr (z : QArr) (b p h e : ℕ) : ℝ :=
  (z (ix2 (⟨(b * 4096 + p) % 16384, Nat.mod_lt _ (by norm_num)⟩ : Fin 16384) (⟨(2048 + (h * 128 + e)) % 3584, Nat.mod_lt _ (by norm_num)⟩ : Fin 3584))).toReal

/-- Lane `e` of head `h`'s key (heads 0 to 3) or value (4 to 7) at position `n` of sequence `b`, as a real number. -/
def kr (kv : KvArr) (b n h e : ℕ) : ℝ :=
  (kv (ix2 (⟨(b * 4096 + n) % 16384, Nat.mod_lt _ (by norm_num)⟩ : Fin 16384) (⟨(h * 128 + e) % 1024, Nat.mod_lt _ (by norm_num)⟩ : Fin 1024))).toReal

/-- The scores of the first and of the second half of the lanes, of a query at position `p` and the key at `n`. -/
def sc1 (z : QArr) (kv : KvArr) (b p h n : ℕ) : ℝ := (∑ x : Fin 64, rot (qr z b p h) p x.val * kr kv b n h x.val) * scale
def sc2 (z : QArr) (kv : KvArr) (b p h n : ℕ) : ℝ := (∑ x : Fin 64, rot (qr z b p h) p (64 + x.val) * kr kv b n h (64 + x.val)) * scale

/-- The differential attention: softmax of the first scores less lambda times softmax of the second, times the values. -/
def mix (z : QArr) (kv : KvArr) (lam : LamArr) (b p h e : ℕ) : ℝ :=
  att (sc1 z kv b p h) (fun n => kr kv b n (4 + h) e) (p + 1) - (lamOf lam).toReal * att (sc2 z kv b p h) (fun n => kr kv b n (4 + h) e) (p + 1)

/-- The result: each row of 128 lanes normalised, times its gain. -/
def want (z : QArr) (kv : KvArr) (lam : LamArr) (g : GainArr) : (⟨2, ![16384, 512]⟩ : Shape).Idx → EReal := fun i =>
  normed (fun e => (mix z kv lam ((i 0).val / 4096) ((i 0).val % 4096) ((i 1).val / 128) e.val : EReal))
    (g (ix1 (⟨(i 1).val % 128, Nat.mod_lt _ (by norm_num)⟩ : Fin 128))) ⟨(i 1).val % 128, Nat.mod_lt _ (by norm_num)⟩

/-- The query columns of `z` are real numbers. -/
def RealQueries (z : QArr) : Prop :=
  ∀ (R : Fin 16384) (C : Fin 512), ∃ a : ℝ, z (ix2 R (⟨2048 + C.val, Nat.lt_of_lt_of_le (Nat.add_lt_add_left C.isLt 2048) (by norm_num)⟩ : Fin 3584)) = (a : EReal)

theorem qr_eq (z : QArr) (hz : RealQueries z)
    (b h : Fin 4) (p : Fin 4096) (e : Fin 128) (R : Fin 16384) (C : Fin 3584) (hR : R.val = b.val * 4096 + p.val) (hC : C.val = 2048 + (h.val * 128 + e.val)) :
    z (ix2 R C) = (qr z b.val p.val h.val e.val : EReal) := by
  have e1 : (⟨(b.val * 4096 + p.val) % 16384, Nat.mod_lt _ (by norm_num)⟩ : Fin 16384) = R := Fin.ext (by simp only; omega)
  have e2 : (⟨(2048 + (h.val * 128 + e.val)) % 3584, Nat.mod_lt _ (by norm_num)⟩ : Fin 3584) = C := Fin.ext (by simp only; omega)
  obtain ⟨a, ha⟩ := hz R ⟨h.val * 128 + e.val, by omega⟩
  have e3 : C = (⟨2048 + (h.val * 128 + e.val), by omega⟩ : Fin 3584) := Fin.ext hC
  unfold qr
  rw [e1, e2, e3, ha]; rfl

theorem kr_eq (kv : KvArr) (hkv : ∀ i, ∃ a : ℝ, kv i = (a : EReal)) (b : Fin 4) (h : Fin 8) (n : Fin 4096) (e : Fin 128) (R : Fin 16384) (C : Fin 1024)
    (hR : R.val = b.val * 4096 + n.val) (hC : C.val = h.val * 128 + e.val) : kv (ix2 R C) = (kr kv b.val n.val h.val e.val : EReal) := by
  have e1 : (⟨(b.val * 4096 + n.val) % 16384, Nat.mod_lt _ (by norm_num)⟩ : Fin 16384) = R := Fin.ext (by simp only; omega)
  have e2 : (⟨(h.val * 128 + e.val) % 1024, Nat.mod_lt _ (by norm_num)⟩ : Fin 1024) = C := Fin.ext (by simp only; omega)
  obtain ⟨a, ha⟩ := hkv (ix2 R C)
  unfold kr
  rw [e1, e2, ha]; rfl

theorem lam_eq (lam : LamArr) (hl : ∀ i, ∃ a : ℝ, lam i = (a : EReal)) : lamOf lam = ((lamOf lam).toReal : EReal) := by
  obtain ⟨a, ha⟩ := lamOf_real lam hl
  rw [ha]; rfl

end Cert.Diff

end
-- ==== Proof.Row.lean ====
module

public import proofs.«01_k».proof.Proof.Lane
public import proofs.«01_k».proof.Proof.Common
public import Idealize.ShloMosaic.Lib.WordCmp
public import Idealize.ShloMosaic.Lib.Pointwise
public import Idealize.ShloMosaic.Lib.Tactic

/-! One row of the kernel: its two query lanes are the halves of the rotated query, scaled; its scores over 128 lanes are
those over 64; its block is the normalised difference of the two quotients. -/

@[expose] public section

set_option maxRecDepth 16384

noncomputable section

open Idealize.ShloMosaic Idealize.ShloMosaic.TcCoe Idealize.SL.Sem

namespace Cert.KernelIdeal.Value
open Cert.KernelIdeal Cert.KernelIdeal.Gen Cert.Diff Cert.Softmax

theorem half_bits : ∀ d : Fin 128, IntOp.andi (BitVec.ofNat 32 d.val) 63#32 = BitVec.ofNat 32 (d.val % 64) := by decide +kernel

theorem first_half : ∀ d : Fin 128, IntOp.cmpi .slt (BitVec.ofNat 32 d.val) 64#32 = BitVec.ofBool (decide (d.val < 64)) := by decide +kernel

theorem second_half : ∀ d : Fin 128, IntOp.cmpi .sge (BitVec.ofNat 32 d.val) 64#32 = BitVec.ofBool (decide (64 ≤ d.val)) := by decide +kernel

theorem low_quarter : ∀ d : Fin 128, IntOp.cmpi .slt (BitVec.ofNat 32 (d.val % 64)) 32#32 = BitVec.ofBool (decide (d.val % 64 < 32)) := by decide +kernel

section
variable (x0 x1 x2 : Vec Ideal S512x128 .f32) (a : Fin 512) (d : Fin 128) (ζ : ℕ → ℝ) (p : ℕ)
  (h0 : ∀ e : Fin 128, x0 (ix2 a e) = (ζ e.val : EReal)) (h1 : ∀ e : Fin 128, x1 (ix2 a e) = (cs p (e.val % 32) : EReal))
  (h2 : ∀ e : Fin 128, x2 (ix2 a e) = ((if e.val % 64 < 32 then - sn p (e.val % 32) else sn p (e.val % 32) : ℝ) : EReal))

/-- The two rolled copies of the scaled query, taken by quarter, times the signed sines, with the query times the
    cosines: the scaled rotation. -/
theorem turn_real : (ζ d.val * scale) * cs p (d.val % 32)
      + (if d.val % 64 < 32 then ζ ((d.val + 128 - 96) % 128) * scale else ζ ((d.val + 128 - 32) % 128) * scale)
        * (if d.val % 64 < 32 then - sn p (d.val % 32) else sn p (d.val % 32)) = rot ζ p d.val * scale := by
  have hd := d.isLt
  unfold rot
  by_cases h : d.val % 64 < 32
  · rw [if_pos h, if_pos h, if_pos h, show d.val % 64 = d.val % 32 by omega, show (d.val + 128 - 96) % 128 = d.val + 32 by omega]
    ring
  · rw [if_neg h, if_neg h, if_neg h, show d.val % 64 - 32 = d.val % 32 by omega, show (d.val + 128 - 32) % 128 = d.val - 32 by omega]
    ring

include h0 h1 h2 in
/-- Lane `a` of the first half of the queries: the first 64 of the rotated lanes, the others zero. -/
theorem lane_first : k0_pay16 x0 x1 x2 (ix2 (⟨a.val, by omega⟩ : Fin 1024) d) = ((if d.val < 64 then rot ζ p d.val * scale else 0 : ℝ) : EReal) := by
  pointwise [k0_pay16]
  simp only [h0, h1, h2, half_bits, first_half, low_quarter, select_mask, scale_eq, a.isLt, dite_true]
  split
  · rw [← turn_real d ζ p]
    split <;> simp only [← EReal.coe_mul, ← EReal.coe_add]
  · rfl

include h0 h1 h2 in
/-- Lane `a` of the second half of the queries: the last 64 of the rotated lanes, the others zero. -/
theorem lane_second : k0_pay16 x0 x1 x2 (ix2 (⟨512 + a.val, by omega⟩ : Fin 1024) d) = ((if 64 ≤ d.val then rot ζ p d.val * scale else 0 : ℝ) : EReal) := by
  pointwise [k0_pay16]
  simp only [h0, h1, h2, half_bits, second_half, low_quarter, select_mask, scale_eq, show ¬ 512 + a.val < 512 by omega, dite_false, Nat.add_sub_cancel_left]
  split
  · rw [← turn_real d ζ p]
    split <;> simp only [← EReal.coe_mul, ← EReal.coe_add]
  · rfl

end

section
variable (kk ρ : ℕ → ℝ)

/-- A score over all 128 lanes of a query whose last 64 are zero. -/
theorem score_first : ∑ x : Fin 128, kk x.val * (if x.val < 64 then ρ x.val * scale else 0) = (∑ x : Fin 64, ρ x.val * kk x.val) * scale := by
  rw [Finset.sum_mul, show (128 : ℕ) = 64 + 64 from rfl, Fin.sum_univ_add]
  simp only [Fin.val_castAdd, Fin.val_natAdd, Fin.isLt, if_true, show ∀ x : Fin 64, ¬ 64 + x.val < 64 from fun x => by omega, if_false, mul_zero, Finset.sum_const_zero, add_zero]
  exact Finset.sum_congr rfl fun x _ => by ring

/-- A score over all 128 lanes of a query whose first 64 are zero. -/
theorem score_second : ∑ x : Fin 128, kk x.val * (if 64 ≤ x.val then ρ x.val * scale else 0) = (∑ x : Fin 64, ρ (64 + x.val) * kk (64 + x.val)) * scale := by
  rw [Finset.sum_mul, show (128 : ℕ) = 64 + 64 from rfl, Fin.sum_univ_add]
  simp only [Fin.val_castAdd, Fin.val_natAdd, Nat.le_add_right, if_true, show ∀ x : Fin 64, ¬ 64 ≤ x.val from fun x => by omega, if_false, mul_zero, Finset.sum_const_zero, zero_add]
  exact Finset.sum_congr rfl fun x _ => by ring

end

/-- The block at row `a`, lane `d`: the difference of the two quotients, normalised. -/
theorem finish_at (acc : FVec Ideal S128x1024 .f32) (l : FVec Ideal S1x1024 .f32) (x5 : Vec Ideal S4x64 .f32) (x6 : Vec Ideal S1x128 .f32) (a : Fin 512) (d : Fin 128) :
    finish acc l x5 x6 (ix2 a d) = normed (fun e : Fin 128 =>
      Ideal.div (acc (ix2 e (⟨a.val, by omega⟩ : Fin 1024))) (l (ix2 0 (⟨a.val, by omega⟩ : Fin 1024)))
        - lamOf x5 * Ideal.div (acc (ix2 e (⟨512 + a.val, by omega⟩ : Fin 1024))) (l (ix2 0 (⟨512 + a.val, by omega⟩ : Fin 1024)))) (x6 (ix2 0 d)) d := by
  pointwise [finish, k0_pay1, k0_pay30, k0_pay31, k0_pay32, normed, lamOf]

end Cert.KernelIdeal.Value
end
-- ==== Proof.Rows.lean ====
module

public import Idealize.ShloMosaic.Lib.Pointwise
public import Idealize.ShloMosaic.Lib.Tactic

/-! The rows of the layer's projections: the root-mean-square norm of a row, and the feed-forward block of a row. -/

@[expose] public section

noncomputable section

open Idealize.ShloMosaic

namespace Cert.Rows

/-- Lane `k` of a row of 1024 lanes over its root mean square, times its gain. -/
def normRow (x g : Fin 1024 → EReal) (k : Fin 1024) : EReal :=
  x k * Ideal.rsqrt (Ideal.div (∑ e, x e * x e) (Ideal.ofBits .f32 1149239296#32) + Ideal.ofBits .f32 897988541#32) * g k

/-- The swish of `h` times `u`, times `h` times `v`. -/
def gated (h u v : Fin 1024 → EReal) : EReal :=
  (∑ k, h k * u k) * Ideal.logistic (∑ k, h k * u k) * ∑ k, h k * v k

/-- The feed-forward block: the row, plus half of the gated lanes of its norm times the down projection. -/
def ffn (x : (⟨2, ![16384, 1024]⟩ : Shape).Idx → EReal) (g : (⟨1, ![1024]⟩ : Shape).Idx → EReal) (wg wu : (⟨2, ![1024, 2816]⟩ : Shape).Idx → EReal)
    (wd : (⟨2, ![2816, 1024]⟩ : Shape).Idx → EReal) : (⟨2, ![16384, 1024]⟩ : Shape).Idx → EReal := fun i =>
  x i + Ideal.ofBits .f32 1056964608#32 * ∑ f : Fin 2816,
    gated (normRow (fun e => x (ix2 (i 0) e)) (fun e => g (ix1 e))) (fun k => wg (ix2 k f)) (fun k => wu (ix2 k f)) * wd (ix2 f (i 1))

/-- The rows over their root mean squares, times the gain. -/
def norms (x : (⟨2, ![16384, 1024]⟩ : Shape).Idx → EReal) (g : (⟨1, ![1024]⟩ : Shape).Idx → EReal) : (⟨2, ![16384, 1024]⟩ : Shape).Idx → EReal := fun i =>
  normRow (fun e => x (ix2 (i 0) e)) (fun e => g (ix1 e)) (i 1)

/-- The norms of the rows times a weight of `n` columns. -/
def project {n : ℕ} (x : (⟨2, ![16384, 1024]⟩ : Shape).Idx → EReal) (g : (⟨1, ![1024]⟩ : Shape).Idx → EReal) (w : (⟨2, ![1024, n]⟩ : Shape).Idx → EReal) :
    (⟨2, ![16384, n]⟩ : Shape).Idx → EReal := fun i =>
  ∑ k, normRow (fun e => x (ix2 (i 0) e)) (fun e => g (ix1 e)) k * w (ix2 k (i 1))

/-- The rows of the memory, 256 for each of 4 sequences, times a weight. -/
def memory (x : (⟨3, ![4, 256, 1024]⟩ : Shape).Idx → EReal) (w : (⟨2, ![1024, 1024]⟩ : Shape).Idx → EReal) : (⟨2, ![1024, 1024]⟩ : Shape).Idx → EReal := fun i =>
  have h : (i 0).val < 1024 := (i 0).isLt
  ∑ k, x (ix3 ⟨(i 0).val / 256, by omega⟩ ⟨(i 0).val % 256, by omega⟩ k) * w (ix2 k (i 1))

/-- The rows plus the product of an array of 512 columns with a weight. -/
def recalled (x : (⟨2, ![16384, 1024]⟩ : Shape).Idx → EReal) (a : (⟨2, ![16384, 512]⟩ : Shape).Idx → EReal) (w : (⟨2, ![512, 1024]⟩ : Shape).Idx → EReal) :
    (⟨2, ![16384, 1024]⟩ : Shape).Idx → EReal := fun i =>
  x i + ∑ f, a (ix2 (i 0) f) * w (ix2 f (i 1))

/-- The rows plus the products of two arrays of 512 columns with the two halves of a weight. -/
def mixed (x : (⟨2, ![16384, 1024]⟩ : Shape).Idx → EReal) (a b : (⟨2, ![16384, 512]⟩ : Shape).Idx → EReal) (w : (⟨2, ![1024, 1024]⟩ : Shape).Idx → EReal) :
    (⟨2, ![16384, 1024]⟩ : Shape).Idx → EReal := fun i =>
  x i + ((∑ f : Fin 512, a (ix2 (i 0) f) * w (ix2 (⟨f.val, by omega⟩ : Fin 1024) (i 1))) +
    ∑ f : Fin 512, b (ix2 (i 0) f) * w (ix2 (⟨512 + f.val, by omega⟩ : Fin 1024) (i 1)))

/-- The corner of a two-axis array. -/
theorem corner : (![0, 0] : Fin 2 → ℕ) = fun _ => 0 := by funext a; fin_cases a <;> rfl

/-- A sum over 2816 lanes, taken in two halves. -/
theorem halves (s : Fin 2816 → EReal) : ∑ f, s f = (∑ f : Fin 1408, s ⟨f.val, by omega⟩) + ∑ f : Fin 1408, s ⟨1408 + f.val, by omega⟩ :=
  Fin.sum_univ_add (a := 1408) (b := 1408) s

end Cert.Rows
end
-- ==== Proof.Turning.lean ====
module

public import proofs.«01_k».proof.Proof.Common
public import Idealize.ShloMosaic.Lib.Pointwise

/-! The keys and values of the differential attention: the rotation of a row of keys over the extended reals. -/

@[expose] public section

noncomputable section

open Idealize.ShloMosaic

namespace Cert.Turning
open Cert.Diff

/-- Lane `e` of a key (two halves of 64 lanes) rotated to position `p`. -/
def turn (ζ : ℕ → EReal) (p e : ℕ) : EReal :=
  if e % 64 < 32 then ζ e * (cs p (e % 32) : EReal) - ζ (e + 32) * (sn p (e % 32) : EReal)
  else ζ e * (cs p (e % 32) : EReal) + ζ (e - 32) * (sn p (e % 32) : EReal)

/-- The rotation by two copies of the key that are rolled by 32 lanes, and signed sines. -/
theorem turn_rolled (ζ : ℕ → EReal) (p e : ℕ) (he : e < 128) :
    ζ e * (cs p (e % 32) : EReal) + (if e % 64 < 32 then ζ ((e + 128 - 96) % 128) else ζ ((e + 128 - 32) % 128))
      * ((if e % 64 < 32 then - sn p (e % 32) else sn p (e % 32) : ℝ) : EReal) = turn ζ p e := by
  unfold turn
  by_cases h : e % 64 < 32
  · rw [if_pos h, if_pos h, if_pos h, show (e + 128 - 96) % 128 = e + 32 by omega, EReal.coe_neg, mul_neg, sub_eq_add_neg]
  · rw [if_neg h, if_neg h, if_neg h, show (e + 128 - 32) % 128 = e - 32 by omega]

/-- The entry of `z` in row `R`, column `C`. -/
def lane (z : QArr) (R : Fin 16384) (C : ℕ) : EReal := z (ix2 R (⟨C % 3584, Nat.mod_lt _ (by norm_num)⟩ : Fin 3584))

theorem lane_eq (z : QArr) (R : Fin 16384) (C : ℕ) (h : C < 3584) : z (ix2 R (⟨C, h⟩ : Fin 3584)) = lane z R C :=
  congrArg (fun k => z (ix2 R k)) (Fin.ext (Nat.mod_eq_of_lt h).symm)

/-- The keys, rotated, and after them the values. -/
def keysValues (z : QArr) : (⟨2, ![16384, 1024]⟩ : Shape).Idx → EReal := fun i =>
  if (i 1).val < 512 then turn (fun e => lane z (i 0) (2560 + ((i 1).val / 128 * 128 + e))) ((i 0).val % 4096) ((i 1).val % 128)
  else lane z (i 0) (2560 + (i 1).val)

theorem keysValues_at (z : QArr) (R : Fin 16384) (C : Fin 1024) : keysValues z (ix2 R C) =
    if C.val < 512 then turn (fun e => lane z R (2560 + (C.val / 128 * 128 + e))) (R.val % 4096) (C.val % 128) else lane z R (2560 + C.val) := rfl

end Cert.Turning
end
-- ==== Proof.TurnPoint.lean ====
module

public import proofs.«01_k».proof.Proof.Gen.DiffKvIdeal.Value
public import proofs.«01_k».proof.Proof.Row
public import proofs.«01_k».proof.Proof.Rows
public import proofs.«01_k».proof.Proof.Turning
public import Idealize.ShloMosaic.Lib.StableHlo.ReadAt
public import Idealize.ShloMosaic.Lib.Pointwise
public import Idealize.ShloMosaic.Lib.Tactic
public import Idealize.ShloMosaic.Lib.Pipeline.ValueKit
public import Idealize.ShloMosaic.Lib.VecWindow

/-! The keys and values of the differential attention: the block that a grid point writes, and the whole array. -/

@[expose] public section

set_option maxRecDepth 16384

noncomputable section

open Idealize.ShloMosaic Idealize.ShloMosaic.TcCoe Idealize.SL.Sem

namespace Cert.DiffKvIdeal.Value
open Cert.DiffKvIdeal Cert.DiffKvIdeal.Gen Cert.Turning Cert.Diff

section
variable (x0 x1 : Vec Ideal S512x512 .f32) (x2 x3 : Vec Ideal S512x128 .f32)

/-- One head's payload: the key times the cosines, and its two rolled copies, taken by quarter, times the sines. -/
theorem head_at (k : Vec Ideal S512x128 .f32) (a : Fin 512) (d : Fin 128) :
    k0_pay5 x2 x3 k (ix2 a d) = (show EReal from k (ix2 a d)) * (show EReal from x2 (ix2 a d)) +
      (if d.val % 64 < 32 then (show EReal from k (ix2 a (⟨(d.val + 128 - 96) % 128, Nat.mod_lt _ (by norm_num)⟩ : Fin 128))) else k (ix2 a (⟨(d.val + 128 - 32) % 128, Nat.mod_lt _ (by norm_num)⟩ : Fin 128)))
        * (show EReal from x3 (ix2 a d)) := by
  pointwise [k0_pay5, k0_pay3, k0_pay4]
  simp only [Cert.KernelIdeal.Value.half_bits, Cert.KernelIdeal.Value.low_quarter, Cert.KernelIdeal.Value.select_mask]

/-- Row `a` of the block of keys, by lanes of head `h`. -/
def keyLane (a : Fin 512) (h e : ℕ) : EReal := x0 (ix2 a (⟨(h * 128 + e) % 512, Nat.mod_lt _ (by norm_num)⟩ : Fin 512))

/-- The block as a function of its index. -/
def blockAt (a : Fin 512) (d : Fin 1024) : EReal :=
  if d.val < 512 then
    keyLane x0 a (d.val / 128) (d.val % 128) * (show EReal from x2 (ix2 a (⟨d.val % 128, Nat.mod_lt _ (by norm_num)⟩ : Fin 128))) +
      (if d.val % 128 % 64 < 32 then keyLane x0 a (d.val / 128) ((d.val % 128 + 128 - 96) % 128) else keyLane x0 a (d.val / 128) ((d.val % 128 + 128 - 32) % 128))
        * (show EReal from x3 (ix2 a (⟨d.val % 128, Nat.mod_lt _ (by norm_num)⟩ : Fin 128)))
  else x1 (ix2 a (⟨(d.val - 512) % 512, Nat.mod_lt _ (by norm_num)⟩ : Fin 512))

/-- What head `h` stores is its part of the block. -/
theorem head_part (h : ℕ) (hh : h < 4) (o : Fin 2 → ℕ) (e : o = ![0, h * 128])
    (i1 : ∀ a, o a + S512x128.size a ≤ S512x512.size a) (i2 : ∀ a, o a + S512x128.size a ≤ S512x1024.size a) (y : S512x128.Idx) :
    k0_pay5 x2 x3 (View.ld (Val := Elt Ideal) (e' := .f32) x0 (Rect.unit (s := S512x512) o S512x128.size i1)) y
      = (fun i : S512x1024.Idx => blockAt x0 x1 x2 x3 (i 0) (i 1)) ((Rect.unit (s := S512x1024) o S512x128.size i2).emb y) := by
  subst e
  idx_vars y
  have c : (Rect.unit (s := S512x1024) ![0, h * 128] S512x128.size i2).emb (ix2 y0 y1) = ix2 y0 (⟨h * 128 + y1.val, by omega⟩ : Fin 1024) := by
    funext a
    fin_cases a
    · exact Fin.ext (show 0 + 1 * y0.val = y0.val by omega)
    · exact Fin.ext (show h * 128 + 1 * y1.val = h * 128 + y1.val by omega)
  have l : ∀ x : Fin 128, View.ld (Val := Elt Ideal) (e' := .f32) x0 (Rect.unit (s := S512x512) ![0, h * 128] S512x128.size i1) (ix2 y0 x) = keyLane x0 y0 h x.val := fun x => by
    refine congrArg x0 (funext fun a => ?_)
    fin_cases a
    · exact Fin.ext (show 0 + 1 * y0.val = y0.val by omega)
    · exact Fin.ext (show h * 128 + 1 * x.val = (h * 128 + x.val) % 512 by omega)
  rw [head_at, c]
  simp only [l]
  show _ = blockAt x0 x1 x2 x3 y0 (⟨h * 128 + y1.val, by omega⟩ : Fin 1024)
  unfold blockAt
  have e1 : (h * 128 + y1.val) % 128 = y1.val := by omega
  have e2 : (h * 128 + y1.val) / 128 = h := by omega
  simp only [e1, e2]
  rw [if_pos (show h * 128 + y1.val < 512 by omega)]

/-- The last store is the block of values. -/
theorem value_part (i2 : ∀ a, (![0, 512] : Fin 2 → ℕ) a + S512x512.size a ≤ S512x1024.size a) (y : S512x512.Idx) :
    x1 y = (fun i : S512x1024.Idx => blockAt x0 x1 x2 x3 (i 0) (i 1)) ((Rect.unit (s := S512x1024) ![0, 512] S512x512.size i2).emb y) := by
  idx_vars y
  have c : (Rect.unit (s := S512x1024) ![0, 512] S512x512.size i2).emb (ix2 y0 y1) = ix2 y0 (⟨512 + y1.val, by omega⟩ : Fin 1024) := by
    funext a
    fin_cases a
    · exact Fin.ext (show 0 + 1 * y0.val = y0.val by omega)
    · exact Fin.ext (show 512 + 1 * y1.val = 512 + y1.val by omega)
  rw [c]
  show _ = blockAt x0 x1 x2 x3 y0 (⟨512 + y1.val, by omega⟩ : Fin 1024)
  unfold blockAt
  rw [if_neg (by simp only; omega)]
  exact congrArg (fun k => x1 (ix2 y0 k)) (Fin.ext (show y1.val = (512 + y1.val - 512) % 512 by omega))

/-- The whole block. -/
theorem out_at (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (y : S512x1024.Idx) :
    out0_A_4 c i arg1 harg1 arg2 harg2 arg3 harg3 arg4 harg4 arg5 harg5 x0 x1 x2 x3 y = blockAt x0 x1 x2 x3 (y 0) (y 1) := by
  have cov := cover0_A_4 c i arg1 harg1 arg2 harg2 arg3 harg3 arg4 harg4 arg5 harg5 x0 x1 x2 x3
  unfold out0_A_4
  rw [View.read_writes_eq_canon _ _ _ cov]
  refine View.canon_apply_of_pieces (Val := Elt Ideal) (e := .f32) (fun i : S512x1024.Idx => blockAt x0 x1 x2 x3 (i 0) (i 1)) _ ?_ y (cov y)
  unfold kernelRun0_A
  dsimp only
  sl_unfold_run_names
  simp only [View.readAt_eq_ld, harg1.read_unread, harg2.read_unread, harg3.read_unread, harg4.read_unread,
    View.ld_unit_zero (S := S512x512) Rows.corner, View.ld_unit_zero (S := S512x128) Rows.corner]
  intro p hp
  simp only [List.mem_cons, List.not_mem_nil, or_false] at hp
  rcases hp with rfl | rfl | rfl | rfl | rfl
  · exact fun x => value_part x0 x1 x2 x3 inb_S512x1024_S512x512_0_512 x
  · exact fun x => head_part x0 x1 x2 x3 3 (by norm_num) _ rfl inb_S512x512_S512x128_0_384 inb_S512x1024_S512x128_0_384 x
  · exact fun x => head_part x0 x1 x2 x3 2 (by norm_num) _ rfl inb_S512x512_S512x128_0_256 inb_S512x1024_S512x128_0_256 x
  · exact fun x => head_part x0 x1 x2 x3 1 (by norm_num) _ rfl inb_S512x512_S512x128_0_128 inb_S512x1024_S512x128_0_128 x
  · exact fun x => head_part x0 x1 x2 x3 0 (by norm_num) _ rfl inb_S512x512_S512x128_0_0 inb_S512x1024_S512x128_0_0 x
end

section
variable (m : (ℓ : Loc nD τ sig) → Buf (Elt Ideal) ℓ) (c : Dev nD) (t : Fin cfg0.N)

/-- Every grid point has its own 512 rows, and the tables of their positions. -/
theorem idx : ∀ t : Fin cfg0.N, win0_0.index t = ![t.val, 5] ∧ win0_1.index t = ![t.val, 6] ∧ win0_2.index t = ![t.val % 8, 0] ∧ win0_3.index t = ![t.val % 8, 0] ∧ win0_4.index t = ![t.val, 0] := by decide +kernel

/-- The table of cosines: the 32 frequencies four times over. -/
theorem cos_table (n : Fin 4096) (d : Fin 128) : V m c main_v18 (ix2 n d) = (cs n.val (d.val % 32) : EReal) := by
  rw [← cos_angle]
  unfold V
  after_reads_at
  split
  · after_reads_at
    unfold angle
    rw [show d.val % 64 = d.val % 32 by omega]
  · after_reads_at
    unfold angle
    rw [show d.val % 64 - 32 = d.val % 32 by omega]

/-- The table of sines: the 32 frequencies four times over, the first and the third time negative. -/
theorem sin_table (n : Fin 4096) (d : Fin 128) : V m c main_v23 (ix2 n d) = ((if d.val % 64 < 32 then - sn n.val (d.val % 32) else sn n.val (d.val % 32) : ℝ) : EReal) := by
  unfold V
  after_reads_at
  split
  · rw [EReal.coe_neg, ← sin_angle]
    after_reads_at
    unfold angle
    rw [show d.val % 64 = d.val % 32 by omega]
  · rw [← sin_angle]
    after_reads_at
    unfold angle
    rw [show d.val % 64 - 32 = d.val % 32 by omega]

theorem key_block (a d : Fin 512) :
    iblk m c 0 t (ix2 a d) = m (c, Proc.devRef .tc main_arg0) (ix2 (⟨t.val * 512 + a.val, by have h : t.val < 32 := t.isLt; omega⟩ : Fin 16384) (⟨2560 + d.val, by omega⟩ : Fin 3584)) := by
  blk_simp [iblk, V]
  after_reads_simp
  blk_ext [idx t]

theorem value_block (a d : Fin 512) :
    iblk m c 1 t (ix2 a d) = m (c, Proc.devRef .tc main_arg0) (ix2 (⟨t.val * 512 + a.val, by have h : t.val < 32 := t.isLt; omega⟩ : Fin 16384) (⟨3072 + d.val, by omega⟩ : Fin 3584)) := by
  blk_simp [iblk, V]
  after_reads_simp
  blk_ext [idx t]

theorem cos_block (a : Fin 512) (d : Fin 128) : iblk m c 2 t (ix2 a d) = (cs ((t.val * 512 + a.val) % 4096) (d.val % 32) : EReal) := by
  have e : iblk m c 2 t (ix2 a d) = V m c main_v18 (ix2 (⟨t.val % 8 * 512 + a.val, by omega⟩ : Fin 4096) d) := by blk_ext [iblk, idx t]
  rw [e, cos_table, show (t.val * 512 + a.val) % 4096 = t.val % 8 * 512 + a.val by omega]

theorem sin_block (a : Fin 512) (d : Fin 128) : iblk m c 3 t (ix2 a d) =
    ((if d.val % 64 < 32 then - sn ((t.val * 512 + a.val) % 4096) (d.val % 32) else sn ((t.val * 512 + a.val) % 4096) (d.val % 32) : ℝ) : EReal) := by
  have e : iblk m c 3 t (ix2 a d) = V m c main_v23 (ix2 (⟨t.val % 8 * 512 + a.val, by omega⟩ : Fin 4096) d) := by blk_ext [iblk, idx t]
  rw [e, sin_table, show (t.val * 512 + a.val) % 4096 = t.val % 8 * 512 + a.val by omega]

/-- A lane of a grid point's keys. -/
theorem key_lane (a : Fin 512) (h e : ℕ) (hh : h < 4) (he : e < 128) :
    keyLane (iblk m c 0 t) a h e = lane (m (c, Proc.devRef .tc main_arg0)) (⟨t.val * 512 + a.val, by have h : t.val < 32 := t.isLt; omega⟩ : Fin 16384) (2560 + (h * 128 + e)) := by
  unfold keyLane
  rw [key_block]
  exact (lane_eq (m (c, Proc.devRef .tc main_arg0)) _ _ _).trans (congrArg (lane _ _) (show 2560 + (h * 128 + e) % 512 = 2560 + (h * 128 + e) by omega))

/-- The whole array that the kernel leaves. -/
theorem final : (dats m 0 c).arrAt 4 cfg0.N = keysValues (m (c, Proc.devRef .tc main_arg0)) := by
  refine (dats m 0 c).arrAt_eq_of_covers 4 _ (by decide +kernel) fun t _ y => ?_
  blk_simp
  rw [after0_4]
  idx_vars y
  have ht : t.val < 32 := t.isLt
  have place : ((View.whole main_v24).slice (win0_4.rect t)).emb (ix2 y0 y1) = ix2 (⟨t.val * 512 + y0.val, by omega⟩ : Fin 16384) y1 := by
    blk_ext [idx t]
  rw [congrArg (keysValues _) place, keysValues_at]
  unfold outsAt0
  rw [out_at]
  show blockAt _ _ _ _ y0 y1 = _
  unfold blockAt
  by_cases h : y1.val < 512
  · rw [if_pos h, if_pos h, ← turn_rolled _ _ _ (by omega), cos_block, sin_block, key_lane _ _ _ _ _ _ (by omega) (by omega),
      key_lane _ _ _ _ _ _ (by omega) (by omega), key_lane _ _ _ _ _ _ (by omega) (by omega)]
  · rw [if_neg h, if_neg h, value_block]
    exact (lane_eq (m (c, Proc.devRef .tc main_arg0)) _ _ _).trans (congrArg (lane _ _) (show 3072 + (y1.val - 512) % 512 = 2560 + y1.val by omega))
end

end Cert.DiffKvIdeal.Value
end
-- ==== Proof.TurnRef.lean ====
module

public import proofs.«01_k».proof.Proof.Gen.DiffKvReferenceIdeal.Run
public import proofs.«01_k».proof.Proof.Turning
public import Idealize.ShloMosaic.Lib.Pointwise
public import Idealize.ShloMosaic.Lib.Tactic

/-! The plain keys and values of the differential attention, read at an index. -/

@[expose] public section

set_option maxRecDepth 16384

noncomputable section

open Idealize.ShloMosaic Idealize.ShloMosaic.TcCoe Idealize.SL.Sem

namespace Cert.DiffKvReferenceIdeal.Value
open Cert.DiffKvReferenceIdeal Cert.DiffKvReferenceIdeal.Gen Cert.Turning Cert.Diff

/-- The angles of every position and frequency. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table over positions and frequencies, for every sequence and head. -/
def spread (x : FVec Ideal S4096x32 .f32) : FVec Ideal S4x4096x4x32 .f32 :=
  broadcastInDim S4x4096x4x32 ![0, 1, 2, 3] bcast_S1x4096x1x32_S4x4096x4x32_0_1_2_3 (broadcastInDim S1x4096x1x32 ![1, 3] bcast_S4096x32_S1x4096x1x32_1_3 x)

/-- The lower and the upper 32 of 64 lanes. -/
def lower (x : FVec Ideal S4x4096x4x64 .f32) : FVec Ideal S4x4096x4x32 .f32 := extractStridedSlice S4x4096x4x32 ![0, 0, 0, 0] x slices_S4x4096x4x64_S4x4096x4x32_0_0_0_0
def upper (x : FVec Ideal S4x4096x4x64 .f32) : FVec Ideal S4x4096x4x32 .f32 := extractStridedSlice S4x4096x4x32 ![0, 0, 0, 32] x slices_S4x4096x4x64_S4x4096x4x32_0_0_0_32

/-- 64 lanes rotated. -/
def turned (x : FVec Ideal S4x4096x4x64 .f32) : FVec Ideal S4x4096x4x64 .f32 :=
  concatenate S4x4096x4x64 3 [⟨S4x4096x4x32, subf (mulf (lower x) (spread (Host.cos angles))) (mulf (upper x) (spread (Host.sin angles)))⟩,
    ⟨S4x4096x4x32, addf (mulf (upper x) (spread (Host.cos angles))) (mulf (lower x) (spread (Host.sin angles)))⟩] concatenates_S4x4096x4x32_S4x4096x4x32_S4x4096x4x64_d3

/-- The keys as they come, by sequence, position and head. -/
def keys (z : FVec Ideal S16384x3584 .f32) : FVec Ideal S4x4096x4x128 .f32 :=
  shapeCast _ (extractStridedSlice S16384x512 ![0, 2560] z slices_S16384x3584_S16384x512_0_2560) shapeCasts_S16384x512_S4x4096x4x128

/-- The keys rotated, half by half. -/
def keysTurned (k : FVec Ideal S4x4096x4x128 .f32) : FVec Ideal S4x4096x4x128 .f32 :=
  concatenate S4x4096x4x128 3 [⟨S4x4096x4x64, turned (extractStridedSlice S4x4096x4x64 ![0, 0, 0, 0] k slices_S4x4096x4x128_S4x4096x4x64_0_0_0_0)⟩,
    ⟨S4x4096x4x64, turned (extractStridedSlice S4x4096x4x64 ![0, 0, 0, 64] k slices_S4x4096x4x128_S4x4096x4x64_0_0_0_64)⟩] concatenates_S4x4096x4x64_S4x4096x4x64_S4x4096x4x128_d3

/-- Keys and after them the values, by rows. -/
def joined (k : FVec Ideal S4x4096x4x128 .f32) (z : FVec Ideal S16384x3584 .f32) : FVec Ideal S16384x1024 .f32 :=
  shapeCast _ (concatenate S4x4096x2x4x128 2 [⟨S4x4096x1x4x128, broadcastInDim S4x4096x1x4x128 ![0, 1, 3, 4] bcast_S4x4096x4x128_S4x4096x1x4x128_0_1_3_4 k⟩,
    ⟨S4x4096x1x4x128, broadcastInDim S4x4096x1x4x128 ![0, 1, 3, 4] bcast_S4x4096x4x128_S4x4096x1x4x128_0_1_3_4 (shapeCast _ (extractStridedSlice S16384x512 ![0, 3072] z slices_S16384x3584_S16384x512_0_3072) shapeCasts_S16384x512_S4x4096x4x128)⟩] concatenates_S4x4096x1x4x128_S4x4096x1x4x128_S4x4096x2x4x128_d2) shapeCasts_S4x4096x2x4x128_S16384x1024

section
variable (b h : Fin 4) (p : Fin 4096) (i : Fin 32) (e : Fin 128) (u : Fin 64)

theorem cos_at : spread (Host.cos angles) (ix4 b p h i) = (cs p.val i.val : EReal) := by
  rw [← cos_angle]
  pointwise [spread, angles, angle]

theorem sin_at : spread (Host.sin angles) (ix4 b p h i) = (sn p.val i.val : EReal) := by
  rw [← sin_angle]
  pointwise [spread, angles, angle]

theorem lower_at (x : FVec Ideal S4x4096x4x64 .f32) : lower x (ix4 b p h i) = x (ix4 b p h (⟨i.val, by omega⟩ : Fin 64)) := by
  pointwise [lower]

theorem upper_at (x : FVec Ideal S4x4096x4x64 .f32) : upper x (ix4 b p h i) = x (ix4 b p h (⟨32 + i.val, by omega⟩ : Fin 64)) := by
  pointwise [upper]

/-- 64 lanes rotated, of lanes `64 s` to `64 s + 63` of a key. -/
theorem turned_at (x : FVec Ideal S4x4096x4x64 .f32) (ζ : ℕ → EReal) (s : ℕ) (hx : ∀ u : Fin 64, x (ix4 b p h u) = ζ (s * 64 + u.val)) :
    turned x (ix4 b p h u) = turn ζ p.val (s * 64 + u.val) := by
  have hu := u.isLt
  unfold turn
  by_cases h1 : u.val < 32
  · rw [if_pos (by omega), show (s * 64 + u.val) % 32 = u.val by omega]
    pointwise [turned]
    rw [dif_pos h1, cos_at, sin_at, lower_at, upper_at, hx, hx]
    simp only [show s * 64 + (32 + u.val) = s * 64 + u.val + 32 by omega]
  · rw [if_neg (by omega), show (s * 64 + u.val) % 32 = u.val - 32 by omega]
    pointwise [turned]
    rw [dif_neg h1, cos_at, sin_at, lower_at, upper_at, hx, hx]
    simp only [show s * 64 + (32 + (u.val - 32)) = s * 64 + u.val by omega, show s * 64 + (u.val - 32) = s * 64 + u.val - 32 by omega]

theorem keysTurned_at (k : FVec Ideal S4x4096x4x128 .f32) (ζ : ℕ → EReal) (hk : ∀ e : Fin 128, k (ix4 b p h e) = ζ e.val) :
    keysTurned k (ix4 b p h e) = turn ζ p.val e.val := by
  pointwise [keysTurned]
  split
  · next h1 =>
    rw [turned_at b h p _ _ ζ 0 (fun u => by pointwise []; rw [hk])]
    simp only [Nat.zero_mul, Nat.zero_add]
  · next h1 =>
    rw [turned_at b h p _ _ ζ 1 (fun u => by pointwise []; rw [hk])]
    simp only [show 1 * 64 + (e.val - 64) = e.val by omega]
end

theorem keys_at (z : FVec Ideal S16384x3584 .f32) (R : Fin 16384) (h : Fin 4) (e : Fin 128) :
    keys z (ix4 (⟨R.val / 4096, by omega⟩ : Fin 4) (⟨R.val % 4096, by omega⟩ : Fin 4096) h e) = lane z R (2560 + (h.val * 128 + e.val)) := by
  rw [← lane_eq z R _ (by omega)]
  pointwise [keys]

theorem head_turned (z : FVec Ideal S16384x3584 .f32) (R : Fin 16384) (h : Fin 4) (e : Fin 128) :
    keysTurned (keys z) (ix4 (⟨R.val / 4096, by omega⟩ : Fin 4) (⟨R.val % 4096, by omega⟩ : Fin 4096) h e)
      = turn (fun e => lane z R (2560 + (h.val * 128 + e))) (R.val % 4096) e.val :=
  keysTurned_at _ _ _ _ _ (fun e => lane z R (2560 + (h.val * 128 + e))) fun e => keys_at z R h e

/-- The plain program's array. -/
theorem result_at (z : FVec Ideal S16384x3584 .f32) : joined (keysTurned (keys z)) z = keysValues z := by
  funext i
  idx_vars i
  rw [keysValues_at]
  by_cases h : i1.val < 512
  · rw [if_pos h]
    pointwise [joined]
    rw [dif_pos (by omega), head_turned]
    simp only [show i1.val / 128 % 4 = i1.val / 128 by omega]
  · rw [if_neg h]
    pointwise [joined]
    rw [dif_neg (by omega), lane_eq z, show 3072 + (i1.val / 128 % 4 * 128 + i1.val % 128) = 2560 + i1.val by omega]

/-- The plain program's array, from its run. -/
theorem run_turn (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = keysValues (m ((c.tc : Thread nD τ).loc main_arg0))
      ∧ r.2.mem ((c.tc : Thread nD τ).loc main_arg0) = m ((c.tc : Thread nD τ).loc main_arg0) :=
  (θ_run defs _ _).mono (fun r h c => ⟨(h c).1.trans (result_at _), (h c).2⟩) (run (F := Ideal) m ρ)

end Cert.DiffKvReferenceIdeal.Value
end
-- ==== Proof.RefRead.lean ====
module

public import proofs.«01_k».proof.Proof.Gen.ReferenceIdeal.Run
public import proofs.«01_k».proof.Proof.Common
public import Idealize.ShloMosaic.Lib.WordCmp
public import Idealize.ShloMosaic.Lib.Pointwise
public import Idealize.ShloMosaic.Lib.Tactic

/-! The plain program read at an index: its queries and their rotation, its masked scores, the exponentials less the
row's maximum, the difference of the two softmaxes times the values, and the normalised rows. -/

@[expose] public section

set_option maxRecDepth 16384

noncomputable section

open Idealize.ShloMosaic Idealize.ShloMosaic.TcCoe Idealize.SL.Sem

namespace Cert.ReferenceIdeal.Value
open Cert.ReferenceIdeal Cert.ReferenceIdeal.Gen Cert.Diff Cert.Softmax

/-- A maximum over the last of four axes. -/
theorem reduce_last {n0 n1 n2 n3 : ℕ} (x : (⟨4, ![n0, n1, n2, n3]⟩ : Shape).Idx → EReal) {u : Shape} (init : u.Idx → EReal)
    (h : (⟨4, ![n0, n1, n2, n3]⟩ : Shape).ReducesTo [3] ⟨3, ![n0, n1, n2]⟩) (hu : 0 < u.numel) (b : Fin n0) (c : Fin n1) (p : Fin n2) :
    Host.reduce (FloatOps.maximumf (F := Ideal) (φ := .f32)) x init h hu (ix3 b c p) = Finset.fold max (init (Shape.Idx.first hu)) (fun n : Fin n3 => x (ix4 b c p n)) Finset.univ := by
  rw [Host.reduce_eq_fold]
  exact Shape.ReducesTo.fold_fiber_r4_a3 h _ _ _ _

/-- The greatest score of each row. -/
def rowMax (x : FVec Ideal S4x4x4096x4096 .f32) : FVec Ideal S4x4x4096 .f32 :=
  Host.reduce FloatOps.maximumf x (constant S_ .f32 0xFF800000#32) reducesTo_S4x4x4096x4096_S4x4x4096_d3 h_S_

/-- The exponentials of the scores less a number for each row. -/
def expMax (x : FVec Ideal S4x4x4096x4096 .f32) (M : FVec Ideal S4x4x4096 .f32) : FVec Ideal S4x4x4096x4096 .f32 :=
  Host.exp (subf x (broadcastInDim S4x4x4096x4096 ![0, 1, 2, 3] bcast_S4x4x4096x1_S4x4x4096x4096_0_1_2_3 (broadcastInDim S4x4x4096x1 ![0, 1, 2] bcast_S4x4x4096_S4x4x4096x1_0_1_2 (maximumf (broadcastInDim S4x4x4096 ![] bcast_S_S4x4x4096 (constant S_ .f32 0xFF800000#32)) M))))

/-- The rows normalised, times their gain, as the result's two axes. -/
def normRows (o : FVec Ideal S4x4096x4x128 .f32) (g : FVec Ideal S128 .f32) : FVec Ideal S16384x512 .f32 :=
  shapeCast _ (mulf (mulf (mulf o (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 g))) (broadcastInDim S4x4096x4x128 ![] bcast_S_S4x4096x4x128 (constant S_ .f32 0x3F4CCCCD#32))) shapeCasts_S4x4096x4x128_S16384x512

section
variable (V0 : Valuation τ sig (Elt Ideal)) (b h : Fin 4) (p n : Fin 4096) (e : Fin 128) (i : Fin 32)
 (z : FVec Ideal S16384x3584 .f32) (hz : V0 (Proc.devRef .tc main_arg0) = z)
 (kv : FVec Ideal S16384x1024 .f32) (hkv : V0 (Proc.devRef .tc main_arg1) = kv)

theorem rowMax_at (x : FVec Ideal S4x4x4096x4096 .f32) : rowMax x (ix3 b h p) = Finset.fold max (⊥ : EReal) (fun n : Fin 4096 => x (ix4 b h p n)) Finset.univ := by
  rw [← negInf]
  exact reduce_last x _ _ _ b h p

theorem expMax_at (x : FVec Ideal S4x4x4096x4096 .f32) (M : FVec Ideal S4x4x4096 .f32) :
    expMax x M (ix4 b h p n) = Ideal.exp (x (ix4 b h p n) - (show EReal from M (ix3 b h p))) := by
  pointwise [expMax]
  rw [negInf, max_eq_right bot_le]

theorem exp1 : res_main_v109 V0 = expMax (res_main_v102 V0) (rowMax (res_main_v102 V0)) := rfl
theorem exp2 : res_main_v121 V0 = expMax (res_main_v114 V0) (rowMax (res_main_v114 V0)) := rfl

theorem normRows_at (o : FVec Ideal S4x4096x4x128 .f32) (g : FVec Ideal S128 .f32) (R : Fin 16384) (C : Fin 512) :
    normRows o g (ix2 R C) = normed (fun x => o (ix4 (⟨R.val / 4096, by omega⟩ : Fin 4) (⟨R.val % 4096, by omega⟩ : Fin 4096) (⟨C.val / 128, by omega⟩ : Fin 4) x))
      (g (ix1 (⟨C.val % 128, by omega⟩ : Fin 128))) ⟨C.val % 128, by omega⟩ := by
  pointwise [normRows, normed]

include hz in
theorem query_at : res_main_v2 V0 (ix4 b p h e) = z (ix2 (⟨b.val * 4096 + p.val, by omega⟩ : Fin 16384) (⟨2048 + (h.val * 128 + e.val), by omega⟩ : Fin 3584)) := by
  unfold res_main_v2; rw [hz]
  pointwise []

include hkv in
theorem key_at : res_main_v66 V0 (ix4 b p h e) = kv (ix2 (⟨b.val * 4096 + p.val, by omega⟩ : Fin 16384) (⟨h.val * 128 + e.val, by omega⟩ : Fin 1024)) := by
  unfold res_main_v66 res_main_v64; rw [hkv]
  pointwise []

include hkv in
theorem value_at : res_main_v64 V0 (ix5 b p 1 h e) = kv (ix2 (⟨b.val * 4096 + p.val, by omega⟩ : Fin 16384) (⟨512 + (h.val * 128 + e.val), by omega⟩ : Fin 1024)) := by
  unfold res_main_v64; rw [hkv]
  pointwise []
  congr 2
  exact Fin.ext (Nat.add_assoc _ _ _)

theorem angle1 : res_main_v15 V0 (ix2 p i) = angle p.val i.val := by
  pointwise [res_main_v15, res_main_v0, angle]
theorem angle2 : res_main_v45 V0 (ix2 p i) = angle p.val i.val := by
  pointwise [res_main_v45, res_main_v0, angle]

/-- The rotated query, of a real one. -/
theorem rot_at (ζ : ℕ → ℝ) (hζ : ∀ e : Fin 128, res_main_v2 V0 (ix4 b p h e) = (ζ e.val : EReal)) :
    res_main_v63 V0 (ix4 b p h e) = (rot ζ p.val e.val : EReal) := by
  pointwise [res_main_v63, res_main_v20, res_main_v21, res_main_v50, res_main_v51, res_main_v3, res_main_v33, res_main_v17, res_main_v19, res_main_v47, res_main_v49]
  have he := e.isLt
  simp only [hζ, angle1, angle2, cos_angle, sin_angle]
  unfold rot
  by_cases h1 : e.val < 64
  · by_cases h2 : e.val < 32
    · rw [dif_pos h1, dif_pos h2, if_pos (by omega), Nat.mod_eq_of_lt h1, Nat.add_comm 32]
      rfl
    · rw [dif_pos h1, dif_neg h2, if_neg (by omega), Nat.mod_eq_of_lt h1, show 32 + (e.val - 32) = e.val by omega]
      rfl
  · have h4 : e.val % 64 = e.val - 64 := by omega
    by_cases h3 : e.val - 64 < 32
    · rw [dif_neg h1, dif_pos h3, if_pos (by omega), h4, show 64 + (e.val - 64) = e.val by omega, show 64 + (32 + (e.val - 64)) = e.val + 32 by omega]
      rfl
    · rw [dif_neg h1, dif_neg h3, if_neg (by omega), h4, show 64 + (32 + (e.val - 64 - 32)) = e.val by omega, show 64 + (e.val - 64 - 32) = e.val - 32 by omega]
      rfl

end

end Cert.ReferenceIdeal.Value
end
-- ==== Proof.Finite.lean ====
module

public import proofs.«01_k».proof.Pre_attends_finite
public import proofs.«01_k».proof.Proof.Softmax
public import Idealize.ShloMosaic.Lib.Pointwise
public import Idealize.ShloMosaic.Lib.Tactic

/-! The precondition read: the queries, the keys and values, and the lambda vectors are real numbers. -/

@[expose] public section

noncomputable section

open Idealize.ShloMosaic

namespace Cert.Pre_attends_finite

/-- The side conditions of the precondition's operations. -/
instance facts : Facts where
  slices_S16384x3584_S16384x512_0_2048 := by decide
  bcast_S_S16384x512 := by decide
  bcast_S_S16384x1024 := by decide
  bcast_S_S4x64 := by decide

theorem posInf : Ideal.ofBits .f32 0x7F800000#32 = (⊤ : EReal) := by
  simp [Ideal.ofBits, Ideal.ieee]

/-- A number of absolute value below +∞ is real. -/
theorem real_of_abs (x : EReal) (h : Ideal.cmp .olt (max x (-x)) (Ideal.ofBits .f32 0x7F800000#32) = 1#1) : ∃ a : ℝ, x = (a : EReal) := by
  rw [posInf] at h
  have h1 : max x (-x) < ⊤ := by
    by_contra hn
    simp [Ideal.cmp, hn] at h
  have h2 : x ≠ ⊤ := ((le_max_left _ _).trans_lt h1).ne
  have h3 : x ≠ ⊥ := fun e => by
    rw [e, EReal.neg_bot] at h1
    exact absurd ((le_max_right _ _).trans_lt h1) (lt_irrefl _)
  exact ⟨_, (EReal.coe_toReal h2 h3).symm⟩

section
variable (z : FVec Ideal S16384x3584 .f32) (kv : FVec Ideal S16384x1024 .f32) (lam : FVec Ideal S4x64 .f32) (g : FVec Ideal S128 .f32)

/-- The queries, columns 2048 to 2559, are real. -/
theorem query_real (h : (fn (F := Ideal) z kv lam g).1 = fun _ => 1#1) (R : Fin 16384) (C : Fin 512) :
    ∃ a : ℝ, z (ix2 R (⟨2048 + C.val, by omega⟩ : Fin 3584)) = (a : EReal) := by
  have e := congrFun h (ix2 R C)
  pointwise [fn] at e
  exact real_of_abs _ e

/-- The keys and values are real. -/
theorem kv_real (h : (fn (F := Ideal) z kv lam g).2.1 = fun _ => 1#1) (i : S16384x1024.Idx) : ∃ a : ℝ, kv i = (a : EReal) := by
  have e := congrFun h i
  exact real_of_abs _ e

/-- The lambda vectors are real. -/
theorem lam_real (h : (fn (F := Ideal) z kv lam g).2.2 = fun _ => 1#1) (i : S4x64.Idx) : ∃ a : ℝ, lam i = (a : EReal) := by
  have e := congrFun h i
  exact real_of_abs _ e

end

end Cert.Pre_attends_finite
end
-- ==== Proof.RecallRef.lean ====
module

public import proofs.«01_k».proof.Proof.Gen.RecallReferenceIdeal.Run
public import proofs.«01_k».proof.Proof.RefRead
public import proofs.«01_k».proof.Proof.Finite
public import proofs.«01_k».proof.Proof.Recalling
public import proofs.«01_k».proof.Pre_recalls_finite
public import Idealize.ShloMosaic.Lib.Pointwise
public import Idealize.ShloMosaic.Lib.Tactic

/-! The plain attention over the memory, read at an index; and its precondition. -/

@[expose] public section

set_option maxRecDepth 16384

noncomputable section

open Idealize.ShloMosaic Idealize.ShloMosaic.TcCoe Idealize.SL.Sem

namespace Cert.Pre_recalls_finite

/-- The side conditions of the precondition's operations. -/
instance facts : Facts where
  bcast_S_S16384x512 := by decide
  slices_S4x256x1024_S4x256x512_0_0_0 := by decide
  bcast_S_S4x256x512 := by decide

/-- Under the precondition the queries and the keys are real numbers. -/
theorem real_scores (q : FVec Ideal S16384x512 .f32) (kv : FVec Ideal S4x256x1024 .f32)
    (h : (fn (F := Ideal) q kv).1 = (fun _ => 1#1) ∧ (fn (F := Ideal) q kv).2 = fun _ => 1#1) : Recalling.RealScores q kv := by
  refine ⟨fun i => Pre_attends_finite.real_of_abs _ (congrFun h.1 i), fun b n d => ?_⟩
  have e := congrFun h.2 (ix3 b n d)
  pointwise [fn] at e
  exact Pre_attends_finite.real_of_abs _ e

end Cert.Pre_recalls_finite

namespace Cert.RecallReferenceIdeal.Value
section
open Cert.RecallReferenceIdeal Cert.RecallReferenceIdeal.Gen Cert.Recalling

/-- The scores of every head. -/
def scores (q : FVec Ideal S16384x512 .f32) (kv : FVec Ideal S4x256x1024 .f32) : FVec Ideal S4x4x4096x256 .f32 :=
  mulf (Host.dotGeneral dot_S4x4096x4x128_S4x256x4x128_S4x4x4096x256_3_3_1_1_02_02 none (shapeCast S4x4096x4x128 q shapeCasts_S16384x512_S4x4096x4x128) (shapeCast S4x256x4x128 (extractStridedSlice S4x256x1x4x128 ![0, 0, 0, 0, 0] (shapeCast S4x256x2x4x128 kv shapeCasts_S4x256x1024_S4x256x2x4x128) slices_S4x256x2x4x128_S4x256x1x4x128_0_0_0_0_0) shapeCasts_S4x256x1x4x128_S4x256x4x128)) (broadcastInDim S4x4x4096x256 ![] bcast_S_S4x4x4096x256 (constant S_ .f32 0x3DB504F3#32))

/-- The greatest score of each row. -/
def rowMax (x : FVec Ideal S4x4x4096x256 .f32) : FVec Ideal S4x4x4096 .f32 :=
  Host.reduce FloatOps.maximumf x (constant S_ .f32 0xFF800000#32) reducesTo_S4x4x4096x256_S4x4x4096_d3 h_S_

/-- The exponentials of the scores less a number for each row. -/
def expMax (x : FVec Ideal S4x4x4096x256 .f32) (M : FVec Ideal S4x4x4096 .f32) : FVec Ideal S4x4x4096x256 .f32 :=
  Host.exp (subf x (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) M))))

/-- The values by weights that are divided by their sum. -/
def values (kv : FVec Ideal S4x256x1024 .f32) (x : FVec Ideal S4x4x4096x256 .f32) : FVec Ideal S16384x512 .f32 :=
  shapeCast S16384x512 (transpose S4x4096x4x128 [0, 3, 1, 2] (Host.dotGeneral dot_S4x256x4x128_S4x4x4096x256_S4x4x128x4096_1_3_3_2_02_01 none (shapeCast S4x256x4x128 (extractStridedSlice S4x256x1x4x128 ![0, 0, 1, 0, 0] (shapeCast S4x256x2x4x128 kv shapeCasts_S4x256x1024_S4x256x2x4x128) slices_S4x256x2x4x128_S4x256x1x4x128_0_0_1_0_0) shapeCasts_S4x256x1x4x128_S4x256x4x128)
    (Host.divf x (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd x (constant S_ .f32 0x00000000#32) reducesTo_S4x4x4096x256_S4x4x4096_d3 h_S_))))) transposes_S4x4x128x4096_S4x4096x4x128_0_3_1_2) shapeCasts_S4x4096x4x128_S16384x512

section
variable (q : FVec Ideal S16384x512 .f32) (kv : FVec Ideal S4x256x1024 .f32) (b h : Fin 4) (p : Fin 4096) (n : Fin 256) (R : Fin 16384) (C : Fin 512)

theorem scores_at : scores q kv (ix4 (⟨R.val / 4096, by omega⟩ : Fin 4) (⟨C.val / 128, by omega⟩ : Fin 4) (⟨R.val % 4096, by omega⟩ : Fin 4096) n) = score q kv R C n := by
  pointwise [scores, score]

theorem rowMax_at (x : FVec Ideal S4x4x4096x256 .f32) : rowMax x (ix3 b h p) = Finset.fold max (⊥ : EReal) (fun n : Fin 256 => x (ix4 b h p n)) Finset.univ := by
  rw [← Softmax.negInf]
  exact Cert.ReferenceIdeal.Value.reduce_last x _ _ _ b h p

theorem expMax_at (x : FVec Ideal S4x4x4096x256 .f32) (M : FVec Ideal S4x4x4096 .f32) :
    expMax x M (ix4 b h p n) = Ideal.exp (x (ix4 b h p n) - (show EReal from M (ix3 b h p))) := by
  pointwise [expMax]
  rw [Softmax.negInf, max_eq_right bot_le]

theorem values_at (x : FVec Ideal S4x4x4096x256 .f32) : values kv x (ix2 R C) = ∑ n : Fin 256,
    (show EReal from kv (ix3 (⟨R.val / 4096, by omega⟩ : Fin 4) n (⟨512 + C.val, by omega⟩ : Fin 1024))) *
      Ideal.div (x (ix4 (⟨R.val / 4096, by omega⟩ : Fin 4) (⟨C.val / 128, by omega⟩ : Fin 4) (⟨R.val % 4096, by omega⟩ : Fin 4096) n))
        (∑ l : Fin 256, (show EReal from x (ix4 (⟨R.val / 4096, by omega⟩ : Fin 4) (⟨C.val / 128, by omega⟩ : Fin 4) (⟨R.val % 4096, by omega⟩ : Fin 4096) l))) := by
  pointwise [values]
  have e : 512 + C.val / 128 * 128 + C.val % 128 = 512 + C.val := by omega
  simp only [e]

/-- The plain program's array, where the scores are real. -/
theorem result_eq (hr : RealScores q kv) : values kv (expMax (scores q kv) (rowMax (scores q kv))) = attend q kv := by
  funext i
  idx_vars i
  rw [values_at]
  simp only [expMax_at, rowMax_at, scores_at]
  exact mean_eq _ _ (by norm_num) fun n => score_real q kv hr _ _ n
end

/-- The plain program's array. -/
theorem run_attend (m : (ℓ : Loc nD τ sig) → Buf (Elt Ideal) ℓ) (ρ : Dev nD → PrngReg)
    (hr : ∀ c : Dev nD, RealScores (m ((c.tc : Thread nD τ).loc main_arg0)) (m ((c.tc : Thread nD τ).loc main_arg1))) :
    θ_run defs (onTc (τ := τ) (main (F := Ideal))) ⟨m, fun _ => 0, ρ⟩ fun r => ∀ c : Dev nD,
      r.2.mem ((c.tc : Thread nD τ).loc main_v22) = attend (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (result_eq _ _ (hr c)), (h c).2⟩) (run (F := Ideal) m ρ)

end
end Cert.RecallReferenceIdeal.Value
end
-- ==== Proof.Blocks.lean ====
module

public import proofs.«01_k».proof.Proof.Gen.KernelIdeal.Value
public import proofs.«01_k».proof.Proof.Common
public import Idealize.ShloMosaic.Lib.StableHlo.ReadAt
public import Idealize.ShloMosaic.Lib.Pointwise
public import Idealize.ShloMosaic.Lib.Tactic
public import Idealize.ShloMosaic.Lib.Pipeline.ValueKit

/-! What the blocks of a grid point hold, by the rows and columns of the arguments, and the two rotary tables the program
builds before the kernel. -/

@[expose] public section

set_option maxRecDepth 16384

noncomputable section

open Idealize.ShloMosaic Idealize.ShloMosaic.TcCoe Idealize.SL.Sem

namespace Cert.KernelIdeal.Value
open Cert.KernelIdeal Cert.KernelIdeal.Gen Cert.Diff

/-- The windows' block indices at every grid point: batch `b`, head `h`, query tile `j`. -/
theorem idx : ∀ t : Fin cfg0.N,
    win0_0.index t = ![(grid0.coords t 0).val * 8 + (grid0.coords t 2).val, 16 + (grid0.coords t 1).val] ∧
    win0_1.index t = ![(grid0.coords t 2).val, 0] ∧
    win0_2.index t = ![(grid0.coords t 2).val, 0] ∧
    win0_3.index t = ![(grid0.coords t 0).val, (grid0.coords t 1).val] ∧
    win0_4.index t = ![(grid0.coords t 0).val, 4 + (grid0.coords t 1).val] ∧
    win0_5.index t = ![0, 0] ∧ win0_6.index t = ![0, 0] ∧
    win0_7.index t = ![(grid0.coords t 0).val * 8 + (grid0.coords t 2).val, (grid0.coords t 1).val] :=
  (by decide +kernel : ∀ t : Fin grid0.N, _)

section
variable (m : (ℓ : Loc nD τ sig) → Buf (Elt Ideal) ℓ) (c : Dev nD) (t : Fin cfg0.N) (a : Fin 512) (d : Fin 128) (n : Fin 4096)

/-- The table of cosines: the 32 frequencies four times over. -/
theorem cos_table : V m c main_v18 (ix2 n d) = (cs n.val (d.val % 32) : EReal) := by
  rw [← cos_angle]
  unfold V
  after_reads_at
  split
  · after_reads_at
    unfold angle
    rw [show d.val % 64 = d.val % 32 by omega]
  · after_reads_at
    unfold angle
    rw [show d.val % 64 - 32 = d.val % 32 by omega]

/-- The table of sines: the 32 frequencies four times over, the first and the third time negative. -/
theorem sin_table : V m c main_v23 (ix2 n d) = ((if d.val % 64 < 32 then - sn n.val (d.val % 32) else sn n.val (d.val % 32) : ℝ) : EReal) := by
  unfold V
  after_reads_at
  split
  · rw [EReal.coe_neg, ← sin_angle]
    after_reads_at
    unfold angle
    rw [show d.val % 64 = d.val % 32 by omega]
  · rw [← sin_angle]
    after_reads_at
    unfold angle
    rw [show d.val % 64 - 32 = d.val % 32 by omega]

theorem gain_row : V m c main_v24 (ix2 0 d) = m (c, Proc.devRef .tc main_arg3) (ix1 d) := by
  unfold V
  after_reads_at

/-- The grid point's query, tables, keys, values, lambda vectors and gain, by rows and columns of their arrays. -/
theorem query_block : iblk m c 0 t (ix2 a d) = m (c, Proc.devRef .tc main_arg0)
    (ix2 (⟨((grid0.coords t 0).val * 8 + (grid0.coords t 2).val) * 512 + a.val, by have h0 : (grid0.coords t 0).val < 4 := (grid0.coords t 0).isLt; have h2 : (grid0.coords t 2).val < 8 := (grid0.coords t 2).isLt; omega⟩ : Fin 16384)
      (⟨(16 + (grid0.coords t 1).val) * 128 + d.val, by have h1 : (grid0.coords t 1).val < 4 := (grid0.coords t 1).isLt; omega⟩ : Fin 3584)) := by
  blk_simp [iblk, V]
  after_reads_simp
  blk_ext [idx t]

theorem cos_block : iblk m c 1 t (ix2 a d) = V m c main_v18
    (ix2 (⟨(grid0.coords t 2).val * 512 + a.val, by have h2 : (grid0.coords t 2).val < 8 := (grid0.coords t 2).isLt; omega⟩ : Fin 4096) d) := by
  blk_ext [iblk, idx t]

theorem sin_block : iblk m c 2 t (ix2 a d) = V m c main_v23
    (ix2 (⟨(grid0.coords t 2).val * 512 + a.val, by have h2 : (grid0.coords t 2).val < 8 := (grid0.coords t 2).isLt; omega⟩ : Fin 4096) d) := by
  blk_ext [iblk, idx t]

theorem key_block : iblk m c 3 t (ix2 n d) = m (c, Proc.devRef .tc main_arg1)
    (ix2 (⟨(grid0.coords t 0).val * 4096 + n.val, by have h0 : (grid0.coords t 0).val < 4 := (grid0.coords t 0).isLt; omega⟩ : Fin 16384)
      (⟨(grid0.coords t 1).val * 128 + d.val, by have h1 : (grid0.coords t 1).val < 4 := (grid0.coords t 1).isLt; omega⟩ : Fin 1024)) := by
  blk_simp [iblk, V]
  after_reads_simp
  blk_ext [idx t]

theorem value_block : iblk m c 4 t (ix2 n d) = m (c, Proc.devRef .tc main_arg1)
    (ix2 (⟨(grid0.coords t 0).val * 4096 + n.val, by have h0 : (grid0.coords t 0).val < 4 := (grid0.coords t 0).isLt; omega⟩ : Fin 16384)
      (⟨(4 + (grid0.coords t 1).val) * 128 + d.val, by have h1 : (grid0.coords t 1).val < 4 := (grid0.coords t 1).isLt; omega⟩ : Fin 1024)) := by
  blk_simp [iblk, V]
  after_reads_simp
  blk_ext [idx t]

theorem lam_block (i : Fin 4) (k : Fin 64) : iblk m c 5 t (ix2 i k) = m (c, Proc.devRef .tc main_arg2) (ix2 i k) := by
  blk_simp [iblk, V]
  after_reads_simp
  blk_ext [idx t]

theorem gain_block : iblk m c 6 t (ix2 0 d) = V m c main_v24 (ix2 0 d) := by
  blk_ext [iblk, idx t]

end

end Cert.KernelIdeal.Value
end
-- ==== Proof.Point.lean ====
module

public import proofs.«01_k».proof.Proof.Blocks
public import proofs.«01_k».proof.Proof.Lane
public import proofs.«01_k».proof.Proof.Row
public import proofs.«01_k».proof.Proof.OutState
public import Idealize.ShloMosaic.Lib.Pointwise
public import Idealize.ShloMosaic.Lib.Tactic

/-! The block a grid point writes, and the whole array the kernel leaves: the differential attention. -/

@[expose] public section

set_option maxRecDepth 16384

noncomputable section

open Idealize.ShloMosaic Idealize.ShloMosaic.TcCoe Idealize.SL.Sem

namespace Cert.KernelIdeal.Value
open Cert.KernelIdeal Cert.KernelIdeal.Gen Cert.Diff Cert.Softmax

section
variable (m : (ℓ : Loc nD τ sig) → Buf (Elt Ideal) ℓ) (c : Dev nD) (t : Fin cfg0.N) (z : QArr) (kv : KvArr) (lam : LamArr) (g : GainArr)
  (ez : m (c, Proc.devRef .tc main_arg0) = z) (ek : m (c, Proc.devRef .tc main_arg1) = kv) (el : m (c, Proc.devRef .tc main_arg2) = lam) (eg : m (c, Proc.devRef .tc main_arg3) = g)
  (hz : RealQueries z)
  (hkv : ∀ i, ∃ a : ℝ, kv i = (a : EReal)) (hl : ∀ i, ∃ a : ℝ, lam i = (a : EReal))
  (a : Fin 512) (d : Fin 128)

include ez hz in
theorem query_row : iblk m c 0 t (ix2 a d) = (qr z (grid0.coords t 0).val (512 * (grid0.coords t 2).val + a.val) (grid0.coords t 1).val d.val : EReal) := by
  have h0 : (grid0.coords t 0).val < 4 := (grid0.coords t 0).isLt
  have h1 : (grid0.coords t 1).val < 4 := (grid0.coords t 1).isLt
  have h2 : (grid0.coords t 2).val < 8 := (grid0.coords t 2).isLt
  rw [query_block, ez]
  exact qr_eq z hz ⟨_, h0⟩ ⟨_, h1⟩ ⟨512 * (grid0.coords t 2).val + a.val, by omega⟩ d _ _ (by simp only; omega) (by simp only; omega)

theorem cos_row : iblk m c 1 t (ix2 a d) = (cs (512 * (grid0.coords t 2).val + a.val) (d.val % 32) : EReal) := by
  rw [cos_block, cos_table]
  simp only [Nat.mul_comm 512]

theorem sin_row : iblk m c 2 t (ix2 a d) = ((if d.val % 64 < 32 then - sn (512 * (grid0.coords t 2).val + a.val) (d.val % 32) else sn (512 * (grid0.coords t 2).val + a.val) (d.val % 32) : ℝ) : EReal) := by
  rw [sin_block, sin_table]
  simp only [Nat.mul_comm 512]

include ek hkv in
theorem key_row (n : Fin 4096) : iblk m c 3 t (ix2 n d) = (kr kv (grid0.coords t 0).val n.val (grid0.coords t 1).val d.val : EReal) := by
  have h0 : (grid0.coords t 0).val < 4 := (grid0.coords t 0).isLt
  have h1 : (grid0.coords t 1).val < 4 := (grid0.coords t 1).isLt
  rw [key_block, ek]
  exact kr_eq kv hkv ⟨_, h0⟩ ⟨(grid0.coords t 1).val, by omega⟩ n d _ _ rfl rfl

include ek hkv in
theorem value_row (n : Fin 4096) : iblk m c 4 t (ix2 n d) = (kr kv (grid0.coords t 0).val n.val (4 + (grid0.coords t 1).val) d.val : EReal) := by
  have h0 : (grid0.coords t 0).val < 4 := (grid0.coords t 0).isLt
  have h1 : (grid0.coords t 1).val < 4 := (grid0.coords t 1).isLt
  rw [value_block, ek]
  exact kr_eq kv hkv ⟨_, h0⟩ ⟨4 + (grid0.coords t 1).val, by omega⟩ n d _ _ rfl rfl

include el in
theorem lam_row : lamOf (iblk m c 5 t) = lamOf lam := by
  have h : (iblk m c 5 t : (⟨2, ![4, 64]⟩ : Shape).Idx → EReal) = lam := by
    funext i
    idx_vars i
    exact (lam_block m c t _ _).trans (congrFun el _)
  exact congrArg lamOf h

include ez ek hz hkv in
/-- The scores of the block's two copies of the queries. -/
theorem first_scores (n : Fin 4096) : ∑ x : Fin 128, (show EReal from iblk m c 3 t (ix2 n x)) * (show EReal from k0_pay16 (F := Ideal) (iblk m c 0 t) (iblk m c 1 t) (iblk m c 2 t) (ix2 (⟨a.val, by omega⟩ : Fin 1024) x))
    = (sc1 z kv (grid0.coords t 0).val (512 * (grid0.coords t 2).val + a.val) (grid0.coords t 1).val n.val : EReal) := by
  unfold sc1
  rw [← score_first (kr kv (grid0.coords t 0).val n.val (grid0.coords t 1).val) (rot (qr z (grid0.coords t 0).val (512 * (grid0.coords t 2).val + a.val) (grid0.coords t 1).val) (512 * (grid0.coords t 2).val + a.val)), ← coe_sum]
  refine Finset.sum_congr rfl fun x _ => ?_
  rw [key_row m c t kv ek hkv, lane_first _ _ _ a x _ _ (query_row m c t z ez hz a) (cos_row m c t a) (sin_row m c t a), EReal.coe_mul]

include ez ek hz hkv in
theorem second_scores (n : Fin 4096) : ∑ x : Fin 128, (show EReal from iblk m c 3 t (ix2 n x)) * (show EReal from k0_pay16 (F := Ideal) (iblk m c 0 t) (iblk m c 1 t) (iblk m c 2 t) (ix2 (⟨512 + a.val, by omega⟩ : Fin 1024) x))
    = (sc2 z kv (grid0.coords t 0).val (512 * (grid0.coords t 2).val + a.val) (grid0.coords t 1).val n.val : EReal) := by
  unfold sc2
  rw [← score_second (kr kv (grid0.coords t 0).val n.val (grid0.coords t 1).val) (rot (qr z (grid0.coords t 0).val (512 * (grid0.coords t 2).val + a.val) (grid0.coords t 1).val) (512 * (grid0.coords t 2).val + a.val)), ← coe_sum]
  refine Finset.sum_congr rfl fun x _ => ?_
  rw [key_row m c t kv ek hkv, lane_second _ _ _ a x _ _ (query_row m c t z ez hz a) (cos_row m c t a) (sin_row m c t a), EReal.coe_mul]

include ez ek el eg hz hkv hl in
/-- What the grid point writes, at row `a` and lane `d`. -/
theorem block_at : finish (lastA (k0_pay16 (iblk m c 0 t) (iblk m c 1 t) (iblk m c 2 t)) (tile (iblk m c 3 t) (grid0.coords t 2).val) (tile (iblk m c 4 t) (grid0.coords t 2).val) (states (k0_pay16 (iblk m c 0 t) (iblk m c 1 t) (iblk m c 2 t)) (iblk m c 3 t) (iblk m c 4 t) (grid0.coords t 2).val))
      (lastL (k0_pay16 (iblk m c 0 t) (iblk m c 1 t) (iblk m c 2 t)) (tile (iblk m c 3 t) (grid0.coords t 2).val) (states (k0_pay16 (iblk m c 0 t) (iblk m c 1 t) (iblk m c 2 t)) (iblk m c 3 t) (iblk m c 4 t) (grid0.coords t 2).val)) (iblk m c 5 t) (iblk m c 6 t) (ix2 a d)
    = normed (fun e => (mix z kv lam (grid0.coords t 0).val (512 * (grid0.coords t 2).val + a.val) (grid0.coords t 1).val e.val : EReal)) (g (ix1 d)) d := by
  have h2 : (grid0.coords t 2).val < 8 := (grid0.coords t 2).isLt
  rw [finish_at, gain_block, gain_row, eg, lam_row m c t lam el, lam_eq lam hl]
  refine congrArg (fun o => normed o _ d) (funext fun e => ?_)
  rw [lane_att _ _ _ _ e _ (fun n => kr kv (grid0.coords t 0).val n (4 + (grid0.coords t 1).val) e.val) (first_scores m c t z kv ez ek hz hkv a) (fun n => value_row m c t kv ek hkv e n) _ h2,
    lane_att _ _ _ _ e _ (fun n => kr kv (grid0.coords t 0).val n (4 + (grid0.coords t 1).val) e.val) (second_scores m c t z kv ez ek hz hkv a) (fun n => value_row m c t kv ek hkv e n) _ h2]
  simp only [show a.val % 512 = a.val by omega, show (512 + a.val) % 512 = a.val by omega, ← EReal.coe_mul, ← EReal.coe_sub]
  rfl

/-- The result at the row of position `p` of sequence `b`, at lane `d` of head `h`. -/
theorem want_at (R : Fin 16384) (C : Fin 512) (b p h : ℕ) (d : Fin 128) (hR : R.val = b * 4096 + p) (hp : p < 4096) (hC : C.val = h * 128 + d.val) :
    want z kv lam g (ix2 R C) = normed (fun e => (mix z kv lam b p h e.val : EReal)) (g (ix1 d)) d := by
  have e1 : R.val / 4096 = b := by omega
  have e2 : R.val % 4096 = p := by omega
  have e3 : C.val / 128 = h := by omega
  have e4 : (⟨C.val % 128, Nat.mod_lt _ (by norm_num)⟩ : Fin 128) = d := Fin.ext (by simp only; omega)
  show normed (fun e => (mix z kv lam (R.val / 4096) (R.val % 4096) (C.val / 128) e.val : EReal)) (g (ix1 (⟨C.val % 128, _⟩ : Fin 128))) ⟨C.val % 128, _⟩ = _
  rw [e1, e2, e3, e4]

include ez ek el eg hz hkv hl in
/-- The whole array the kernel leaves. -/
theorem final : (dats m 0 c).arrAt 7 cfg0.N = want z kv lam g := by
  refine (dats m 0 c).arrAt_eq_of_covers 7 _ (by decide +kernel) fun t _ y => ?_
  blk_simp
  rw [after0_7]
  unfold outsAt0
  dsimp only
  rw [out_eq]
  idx_vars y
  have h0 : (grid0.coords t 0).val < 4 := (grid0.coords t 0).isLt
  have h1 : (grid0.coords t 1).val < 4 := (grid0.coords t 1).isLt
  have h2 : (grid0.coords t 2).val < 8 := (grid0.coords t 2).isLt
  have place : want z kv lam g (((View.whole main_v25).slice (win0_7.rect t)).emb (ix2 y0 y1))
      = want z kv lam g (ix2 (⟨((grid0.coords t 0).val * 8 + (grid0.coords t 2).val) * 512 + y0.val, by omega⟩ : Fin 16384)
          (⟨(grid0.coords t 1).val * 128 + y1.val, by omega⟩ : Fin 512)) := by
    blk_ext [idx t]
  refine (block_at m c t z kv lam g ez ek el eg hz hkv hl _ _).trans (Eq.trans ?_ place.symm)
  exact (want_at z kv lam g _ _ _ _ _ _ (by simp only; omega) (by omega) rfl).symm

end

end Cert.KernelIdeal.Value
end
-- ==== Proof.FfnPoint.lean ====
module

public import proofs.«01_k».proof.Proof.Gen.FfnIdeal.Value
public import proofs.«01_k».proof.Proof.Rows
public import Idealize.ShloMosaic.Lib.StableHlo.ReadAt
public import Idealize.ShloMosaic.Lib.Pointwise
public import Idealize.ShloMosaic.Lib.Tactic
public import Idealize.ShloMosaic.Lib.Pipeline.ValueKit

/-! The feed-forward kernel: the block that a grid point writes, and the whole array. -/

@[expose] public section

set_option maxRecDepth 16384

noncomputable section

open Idealize.ShloMosaic Idealize.ShloMosaic.TcCoe Idealize.SL.Sem

namespace Cert.FfnIdeal.Value
open Cert.FfnIdeal Cert.FfnIdeal.Gen Cert.Rows

section
variable (x0 : Vec Ideal S512x1024 .f32) (x1 : Vec Ideal S1x1024 .f32) (x2 x3 : Vec Ideal S1024x2816 .bf16) (x4 : Vec Ideal S2816x1024 .bf16) (a : Fin 512) (d : Fin 1024)
  (f : Fin 1408)

/-- The two halves of the columns of an up projection, and of the rows of the down projection. -/
theorem cols_first : View.ld x2 r0_2 (ix2 d f) = x2 (ix2 d (⟨f.val, by omega⟩ : Fin 2816)) := by
  blk_ext [View.ld]
  · show 0 + 1 * d.val = d.val; omega
  · show 0 + 1 * f.val = f.val; omega
theorem cols_second : View.ld x2 r0_4 (ix2 d f) = x2 (ix2 d (⟨1408 + f.val, by omega⟩ : Fin 2816)) := by
  blk_ext [View.ld]
  · show 0 + 1 * d.val = d.val; omega
  · show 1408 + 1 * f.val = 1408 + f.val; omega
theorem rows_first : View.ld x4 r0_3 (ix2 f d) = x4 (ix2 (⟨f.val, by omega⟩ : Fin 2816) d) := by
  blk_ext [View.ld]
  · show 0 + 1 * f.val = f.val; omega
  · show 0 + 1 * d.val = d.val; omega
theorem rows_second : View.ld x4 r0_5 (ix2 f d) = x4 (ix2 (⟨1408 + f.val, by omega⟩ : Fin 2816) d) := by
  blk_ext [View.ld]
  · show 1408 + 1 * f.val = 1408 + f.val; omega
  · show 0 + 1 * d.val = d.val; omega

theorem norm_at : k0_pay2 x0 x1 (ix2 a d) = normRow (fun e => x0 (ix2 a e)) (fun e => x1 (ix2 0 e)) d := by
  pointwise [k0_pay2, normRow]

/-- The block at row `a`, lane `d`. -/
theorem out_at : out0_5 x0 x1 x2 x3 x4 (ix2 a d) = x0 (ix2 a d) + Ideal.ofBits .f32 1056964608#32 * ∑ f : Fin 2816,
    gated (normRow (fun e => x0 (ix2 a e)) (fun e => x1 (ix2 0 e))) (fun k => x2 (ix2 k f)) (fun k => x3 (ix2 k f)) * x4 (ix2 f d) := by
  unfold out0_5
  rw [View.canon_unit_zero corner, View.ld_unit_zero (S := S512x1024) corner, View.ld_unit_zero (S := S1x1024) corner, halves]
  pointwise [k0_pay1, k0_pay3, k0_pay4, k0_pay5]
  simp only [norm_at, cols_first, cols_second, rows_first, rows_second, gated]
end

section
variable (m : (ℓ : Loc nD τ sig) → Buf (Elt Ideal) ℓ) (c : Dev nD) (t : Fin cfg0.N) (a : Fin 512) (d : Fin 1024) (f : Fin 2816)

/-- Every grid point has its own 512 rows, and the whole gain and weights. -/
theorem idx : ∀ t : Fin cfg0.N, win0_0.index t = ![t.val, 0] ∧ win0_1.index t = ![0, 0] ∧ win0_2.index t = ![0, 0] ∧ win0_3.index t = ![0, 0] ∧
    win0_4.index t = ![0, 0] ∧ win0_5.index t = ![t.val, 0] := by decide +kernel

theorem x_block : iblk m c 0 t (ix2 a d) = m (c, Proc.devRef .tc main_arg0) (ix2 (⟨t.val * 512 + a.val, by have h : t.val < 32 := t.isLt; omega⟩ : Fin 16384) d) := by
  blk_simp [iblk, V]
  after_reads_simp
  blk_ext [idx t]

theorem gain_block : iblk m c 1 t (ix2 0 d) = m (c, Proc.devRef .tc main_arg1) (ix1 d) := by
  blk_simp [iblk, V]
  after_reads_simp
  have e : (win0_1.blk t).view.emb (ix2 0 d) = ix2 0 d := by blk_ext [idx t]
  rw [e]
  pointwise

theorem gate_block : iblk m c 2 t (ix2 d f) = m (c, Proc.devRef .tc main_arg2) (ix2 d f) := by
  blk_simp [iblk, V]
  after_reads_simp
  blk_ext [idx t]

theorem up_block : iblk m c 3 t (ix2 d f) = m (c, Proc.devRef .tc main_arg3) (ix2 d f) := by
  blk_simp [iblk, V]
  after_reads_simp
  blk_ext [idx t]

theorem down_block : iblk m c 4 t (ix2 f d) = m (c, Proc.devRef .tc main_arg4) (ix2 f d) := by
  blk_simp [iblk, V]
  after_reads_simp
  blk_ext [idx t]

/-- The whole array that the kernel leaves. -/
theorem final : (dats m 0 c).arrAt 5 cfg0.N = ffn (m (c, Proc.devRef .tc main_arg0)) (m (c, Proc.devRef .tc main_arg1)) (m (c, Proc.devRef .tc main_arg2))
    (m (c, Proc.devRef .tc main_arg3)) (m (c, Proc.devRef .tc main_arg4)) := by
  refine (dats m 0 c).arrAt_eq_of_covers 5 _ (by decide +kernel) fun t _ y => ?_
  blk_simp
  rw [after0_5]
  idx_vars y
  have ht : t.val < 32 := t.isLt
  have place : ((View.whole main_v4).slice (win0_5.rect t)).emb (ix2 y0 y1) = ix2 (⟨t.val * 512 + y0.val, by omega⟩ : Fin 16384) y1 := by
    blk_ext [idx t]
  rw [out_at]
  simp only [x_block, gain_block, gate_block, up_block, down_block]
  exact (congrArg (ffn _ _ _ _ _) place).symm

end

end Cert.FfnIdeal.Value
end
-- ==== Proof.FfnRef.lean ====
module

public import proofs.«01_k».proof.Proof.Gen.FfnReferenceIdeal.Run
public import proofs.«01_k».proof.Proof.Rows
public import Idealize.ShloMosaic.Lib.IdealHost
public import Idealize.ShloMosaic.Lib.Pointwise
public import Idealize.ShloMosaic.Lib.Tactic

/-! The plain feed-forward block, read at an index. -/

@[expose] public section

set_option maxRecDepth 16384

noncomputable section

open Idealize.ShloMosaic Idealize.ShloMosaic.TcCoe Idealize.SL.Sem

namespace Cert.FfnReferenceIdeal.Value
open Cert.FfnReferenceIdeal Cert.FfnReferenceIdeal.Gen Cert.Rows

variable (m : (ℓ : Loc nD τ sig) → Buf (Elt Ideal) ℓ) (ρ : Dev nD → PrngReg)

/-- The plain program's array is the feed-forward block of its arguments. -/
theorem run_ffn : θ_run defs (onTc (τ := τ) (main (F := Ideal))) ⟨m, fun _ => 0, ρ⟩ fun r => ∀ c : Dev nD,
      r.2.mem ((c.tc : Thread nD τ).loc main_v20) = ffn (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run (F := Ideal) m ρ)
  funext i
  idx_vars i
  pointwise [ffn, gated, normRow]
  simp only [Ideal.logistic, Ideal.ofBits_one_f32]

end Cert.FfnReferenceIdeal.Value
end
-- ==== Proof.EvenRows.lean ====
module

public import proofs.«01_k».proof.Proof.Gen.InEvenIdeal.Value
public import proofs.«01_k».proof.Proof.Gen.InEvenReferenceIdeal.Run
public import proofs.«01_k».proof.Proof.Rows
public import Idealize.ShloMosaic.Lib.StableHlo.ReadAt
public import Idealize.ShloMosaic.Lib.Pointwise
public import Idealize.ShloMosaic.Lib.Tactic
public import Idealize.ShloMosaic.Lib.Pipeline.ValueKit

/-! The projection of the first kind of mixers: the norms of the rows times a weight of 3584 columns. -/

@[expose] public section

set_option maxRecDepth 16384

noncomputable section

open Idealize.ShloMosaic Idealize.ShloMosaic.TcCoe Idealize.SL.Sem

namespace Cert.InEvenIdeal.Value
section
open Cert.InEvenIdeal Cert.InEvenIdeal.Gen Cert.Rows

/-- The block at row `a`, column `d`. -/
theorem out_at (x0 : Vec Ideal S512x1024 .f32) (x1 : Vec Ideal S1x1024 .f32) (x2 : Vec Ideal S1024x3584 .bf16) (a : Fin 512) (d : Fin 3584) :
    out0_3 x0 x1 x2 (ix2 a d) = ∑ k, normRow (fun e => x0 (ix2 a e)) (fun e => x1 (ix2 0 e)) k * x2 (ix2 k d) := by
  unfold out0_3
  rw [View.canon_unit_zero corner, View.ld_unit_zero (S := S512x1024) corner, View.ld_unit_zero (S := S1x1024) corner, View.ld_unit_zero (S := S1024x3584) corner]
  pointwise [k0_pay1, normRow]

variable (m : (ℓ : Loc nD τ sig) → Buf (Elt Ideal) ℓ) (c : Dev nD) (t : Fin cfg0.N)

/-- Every grid point has its own 512 rows, and the rest whole. -/
theorem idx : ∀ t : Fin cfg0.N, win0_0.index t = ![t.val, 0] ∧ win0_1.index t = ![0, 0] ∧ win0_2.index t = ![0, 0] ∧ win0_3.index t = ![t.val, 0] := by decide +kernel

theorem x_block (a : Fin 512) (d : Fin 1024) :
    iblk m c 0 t (ix2 a d) = m (c, Proc.devRef .tc main_arg0) (ix2 (⟨t.val * 512 + a.val, by have h : t.val < 32 := t.isLt; omega⟩ : Fin 16384) d) := by
  blk_simp [iblk, V]
  after_reads_simp
  blk_ext [idx t]

theorem gain_block (d : Fin 1024) : iblk m c 1 t (ix2 0 d) = m (c, Proc.devRef .tc main_arg1) (ix1 d) := by
  blk_simp [iblk, V]
  after_reads_simp
  have e : (win0_1.blk t).view.emb (ix2 0 d) = ix2 0 d := by blk_ext [idx t]
  rw [e]
  pointwise

theorem weight_block (k : Fin 1024) (d : Fin 3584) : iblk m c 2 t (ix2 k d) = m (c, Proc.devRef .tc main_arg2) (ix2 k d) := by
  blk_simp [iblk, V]
  after_reads_simp
  blk_ext [idx t]

/-- The whole array that the kernel leaves. -/
theorem final : (dats m 0 c).arrAt 3 cfg0.N = project (m (c, Proc.devRef .tc main_arg0)) (m (c, Proc.devRef .tc main_arg1)) (m (c, Proc.devRef .tc main_arg2)) := by
  refine (dats m 0 c).arrAt_eq_of_covers 3 _ (by decide +kernel) fun t _ y => ?_
  blk_simp
  rw [after0_3]
  idx_vars y
  have ht : t.val < 32 := t.isLt
  have place : ((View.whole main_v2).slice (win0_3.rect t)).emb (ix2 y0 y1) = ix2 (⟨t.val * 512 + y0.val, by omega⟩ : Fin 16384) y1 := by
    blk_ext [idx t]
  rw [out_at]
  simp only [x_block, gain_block, weight_block]
  exact (congrArg (project _ _ _) place).symm

end
end Cert.InEvenIdeal.Value

namespace Cert.InEvenReferenceIdeal.Value
section
open Cert.InEvenReferenceIdeal Cert.InEvenReferenceIdeal.Gen Cert.Rows

/-- The plain program's array. -/
theorem run_project (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = project (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run (F := Ideal) m ρ)
  funext i
  idx_vars i
  pointwise [project, normRow]

end
end Cert.InEvenReferenceIdeal.Value
end
-- ==== Proof.OddRows.lean ====
module

public import proofs.«01_k».proof.Proof.Gen.InOddIdeal.Value
public import proofs.«01_k».proof.Proof.Gen.InOddReferenceIdeal.Run
public import proofs.«01_k».proof.Proof.Rows
public import Idealize.ShloMosaic.Lib.StableHlo.ReadAt
public import Idealize.ShloMosaic.Lib.Pointwise
public import Idealize.ShloMosaic.Lib.Tactic
public import Idealize.ShloMosaic.Lib.Pipeline.ValueKit

/-! The projection of the second kind of mixers: the norms of the rows times a weight of 4224 columns. -/

@[expose] public section

set_option maxRecDepth 16384

noncomputable section

open Idealize.ShloMosaic Idealize.ShloMosaic.TcCoe Idealize.SL.Sem

namespace Cert.InOddIdeal.Value
section
open Cert.InOddIdeal Cert.InOddIdeal.Gen Cert.Rows

/-- The block at row `a`, column `d`. -/
theorem out_at (x0 : Vec Ideal S512x1024 .f32) (x1 : Vec Ideal S1x1024 .f32) (x2 : Vec Ideal S1024x4224 .bf16) (a : Fin 512) (d : Fin 4224) :
    out0_3 x0 x1 x2 (ix2 a d) = ∑ k, normRow (fun e => x0 (ix2 a e)) (fun e => x1 (ix2 0 e)) k * x2 (ix2 k d) := by
  unfold out0_3
  rw [View.canon_unit_zero corner, View.ld_unit_zero (S := S512x1024) corner, View.ld_unit_zero (S := S1x1024) corner, View.ld_unit_zero (S := S1024x4224) corner]
  pointwise [k0_pay1, normRow]

variable (m : (ℓ : Loc nD τ sig) → Buf (Elt Ideal) ℓ) (c : Dev nD) (t : Fin cfg0.N)

/-- Every grid point has its own 512 rows, and the rest whole. -/
theorem idx : ∀ t : Fin cfg0.N, win0_0.index t = ![t.val, 0] ∧ win0_1.index t = ![0, 0] ∧ win0_2.index t = ![0, 0] ∧ win0_3.index t = ![t.val, 0] := by decide +kernel

theorem x_block (a : Fin 512) (d : Fin 1024) :
    iblk m c 0 t (ix2 a d) = m (c, Proc.devRef .tc main_arg0) (ix2 (⟨t.val * 512 + a.val, by have h : t.val < 32 := t.isLt; omega⟩ : Fin 16384) d) := by
  blk_simp [iblk, V]
  after_reads_simp
  blk_ext [idx t]

theorem gain_block (d : Fin 1024) : iblk m c 1 t (ix2 0 d) = m (c, Proc.devRef .tc main_arg1) (ix1 d) := by
  blk_simp [iblk, V]
  after_reads_simp
  have e : (win0_1.blk t).view.emb (ix2 0 d) = ix2 0 d := by blk_ext [idx t]
  rw [e]
  pointwise

theorem weight_block (k : Fin 1024) (d : Fin 4224) : iblk m c 2 t (ix2 k d) = m (c, Proc.devRef .tc main_arg2) (ix2 k d) := by
  blk_simp [iblk, V]
  after_reads_simp
  blk_ext [idx t]

/-- The whole array that the kernel leaves. -/
theorem final : (dats m 0 c).arrAt 3 cfg0.N = project (m (c, Proc.devRef .tc main_arg0)) (m (c, Proc.devRef .tc main_arg1)) (m (c, Proc.devRef .tc main_arg2)) := by
  refine (dats m 0 c).arrAt_eq_of_covers 3 _ (by decide +kernel) fun t _ y => ?_
  blk_simp
  rw [after0_3]
  idx_vars y
  have ht : t.val < 32 := t.isLt
  have place : ((View.whole main_v2).slice (win0_3.rect t)).emb (ix2 y0 y1) = ix2 (⟨t.val * 512 + y0.val, by omega⟩ : Fin 16384) y1 := by
    blk_ext [idx t]
  rw [out_at]
  simp only [x_block, gain_block, weight_block]
  exact (congrArg (project _ _ _) place).symm

end
end Cert.InOddIdeal.Value

namespace Cert.InOddReferenceIdeal.Value
section
open Cert.InOddReferenceIdeal Cert.InOddReferenceIdeal.Gen Cert.Rows

/-- The plain program's array. -/
theorem run_project (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = project (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run (F := Ideal) m ρ)
  funext i
  idx_vars i
  pointwise [project, normRow]

end
end Cert.InOddReferenceIdeal.Value
end
-- ==== Proof.QueryRows.lean ====
module

public import proofs.«01_k».proof.Proof.Gen.MemQueryIdeal.Value
public import proofs.«01_k».proof.Proof.Gen.MemQueryReferenceIdeal.Run
public import proofs.«01_k».proof.Proof.Rows
public import Idealize.ShloMosaic.Lib.StableHlo.ReadAt
public import Idealize.ShloMosaic.Lib.Pointwise
public import Idealize.ShloMosaic.Lib.Tactic
public import Idealize.ShloMosaic.Lib.Pipeline.ValueKit

/-! The projection of the memory's queries: the norms of the rows times a weight of 512 columns. -/

@[expose] public section

set_option maxRecDepth 16384

noncomputable section

open Idealize.ShloMosaic Idealize.ShloMosaic.TcCoe Idealize.SL.Sem

namespace Cert.MemQueryIdeal.Value
section
open Cert.MemQueryIdeal Cert.MemQueryIdeal.Gen Cert.Rows

/-- The block at row `a`, column `d`. -/
theorem out_at (x0 : Vec Ideal S512x1024 .f32) (x1 : Vec Ideal S1x1024 .f32) (x2 : Vec Ideal S1024x512 .bf16) (a : Fin 512) (d : Fin 512) :
    out0_3 x0 x1 x2 (ix2 a d) = ∑ k, normRow (fun e => x0 (ix2 a e)) (fun e => x1 (ix2 0 e)) k * x2 (ix2 k d) := by
  unfold out0_3
  rw [View.canon_unit_zero corner, View.ld_unit_zero (S := S512x1024) corner, View.ld_unit_zero (S := S1x1024) corner, View.ld_unit_zero (S := S1024x512) corner]
  pointwise [k0_pay1, normRow]

variable (m : (ℓ : Loc nD τ sig) → Buf (Elt Ideal) ℓ) (c : Dev nD) (t : Fin cfg0.N)

/-- Every grid point has its own 512 rows, and the rest whole. -/
theorem idx : ∀ t : Fin cfg0.N, win0_0.index t = ![t.val, 0] ∧ win0_1.index t = ![0, 0] ∧ win0_2.index t = ![0, 0] ∧ win0_3.index t = ![t.val, 0] := by decide +kernel

theorem x_block (a : Fin 512) (d : Fin 1024) :
    iblk m c 0 t (ix2 a d) = m (c, Proc.devRef .tc main_arg0) (ix2 (⟨t.val * 512 + a.val, by have h : t.val < 32 := t.isLt; omega⟩ : Fin 16384) d) := by
  blk_simp [iblk, V]
  after_reads_simp
  blk_ext [idx t]

theorem gain_block (d : Fin 1024) : iblk m c 1 t (ix2 0 d) = m (c, Proc.devRef .tc main_arg1) (ix1 d) := by
  blk_simp [iblk, V]
  after_reads_simp
  have e : (win0_1.blk t).view.emb (ix2 0 d) = ix2 0 d := by blk_ext [idx t]
  rw [e]
  pointwise

theorem weight_block (k : Fin 1024) (d : Fin 512) : iblk m c 2 t (ix2 k d) = m (c, Proc.devRef .tc main_arg2) (ix2 k d) := by
  blk_simp [iblk, V]
  after_reads_simp
  blk_ext [idx t]

/-- The whole array that the kernel leaves. -/
theorem final : (dats m 0 c).arrAt 3 cfg0.N = project (m (c, Proc.devRef .tc main_arg0)) (m (c, Proc.devRef .tc main_arg1)) (m (c, Proc.devRef .tc main_arg2)) := by
  refine (dats m 0 c).arrAt_eq_of_covers 3 _ (by decide +kernel) fun t _ y => ?_
  blk_simp
  rw [after0_3]
  idx_vars y
  have ht : t.val < 32 := t.isLt
  have place : ((View.whole main_v2).slice (win0_3.rect t)).emb (ix2 y0 y1) = ix2 (⟨t.val * 512 + y0.val, by omega⟩ : Fin 16384) y1 := by
    blk_ext [idx t]
  rw [out_at]
  simp only [x_block, gain_block, weight_block]
  exact (congrArg (project _ _ _) place).symm

end
end Cert.MemQueryIdeal.Value

namespace Cert.MemQueryReferenceIdeal.Value
section
open Cert.MemQueryReferenceIdeal Cert.MemQueryReferenceIdeal.Gen Cert.Rows

/-- The plain program's array. -/
theorem run_project (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = project (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run (F := Ideal) m ρ)
  funext i
  idx_vars i
  pointwise [project, normRow]

end
end Cert.MemQueryReferenceIdeal.Value
end
-- ==== Proof.MemoryRows.lean ====
module

public import proofs.«01_k».proof.Proof.Gen.MemoryIdeal.Value
public import proofs.«01_k».proof.Proof.Gen.MemoryReferenceIdeal.Run
public import proofs.«01_k».proof.Proof.Rows
public import Idealize.ShloMosaic.Lib.StableHlo.ReadAt
public import Idealize.ShloMosaic.Lib.Pointwise
public import Idealize.ShloMosaic.Lib.Tactic
public import Idealize.ShloMosaic.Lib.Pipeline.ValueKit

/-! The keys and values of the memory: its rows times a weight. -/

@[expose] public section

set_option maxRecDepth 16384

noncomputable section

open Idealize.ShloMosaic Idealize.ShloMosaic.TcCoe Idealize.SL.Sem

namespace Cert.MemoryIdeal.Value
section
open Cert.MemoryIdeal Cert.MemoryIdeal.Gen Cert.Rows

/-- The block at row `a`, column `d`. -/
theorem out_at (x0 : Vec Ideal S512x1024 .f32) (x1 : Vec Ideal S1x1024 .f32) (x2 : Vec Ideal S1024x1024 .bf16) (a : Fin 512) (d : Fin 1024) :
    out0_3 x0 x1 x2 (ix2 a d) = ∑ k, (show EReal from x0 (ix2 a k)) * x2 (ix2 k d) := by
  unfold out0_3
  rw [View.canon_unit_zero corner, View.ld_unit_zero (S := S512x1024) corner, View.ld_unit_zero (S := S1024x1024) corner]
  pointwise [k0_pay1]

variable (m : (ℓ : Loc nD τ sig) → Buf (Elt Ideal) ℓ) (c : Dev nD) (t : Fin cfg0.N)

/-- Every grid point has its own 512 rows, and the rest whole. -/
theorem idx : ∀ t : Fin cfg0.N, win0_0.index t = ![t.val, 0] ∧ win0_1.index t = ![0, 0] ∧ win0_2.index t = ![0, 0] ∧ win0_3.index t = ![t.val, 0] := by decide +kernel

theorem x_block (a : Fin 512) (d : Fin 1024) (h : t.val < 2) : iblk m c 0 t (ix2 a d) =
    m (c, Proc.devRef .tc main_arg0) (ix3 (⟨(t.val * 512 + a.val) / 256, by omega⟩ : Fin 4) (⟨(t.val * 512 + a.val) % 256, by omega⟩ : Fin 256) d) := by
  blk_simp [iblk, V]
  after_reads_simp
  have e : (win0_0.blk t).view.emb (ix2 a d) = ix2 (⟨t.val * 512 + a.val, by omega⟩ : Fin 1024) d := by blk_ext [idx t]
  rw [e]
  pointwise

theorem weight_block (k d : Fin 1024) : iblk m c 2 t (ix2 k d) = m (c, Proc.devRef .tc main_arg1) (ix2 k d) := by
  blk_simp [iblk, V]
  after_reads_simp
  blk_ext [idx t]

/-- The whole array that the kernel leaves. -/
theorem final : (dats m 0 c).arrAt 3 cfg0.N = memory (m (c, Proc.devRef .tc main_arg0)) (m (c, Proc.devRef .tc main_arg1)) := by
  refine (dats m 0 c).arrAt_eq_of_covers 3 _ (by decide +kernel) fun t _ y => ?_
  blk_simp
  rw [after0_3]
  idx_vars y
  have ht : t.val < 2 := t.isLt
  have place : ((View.whole main_v4).slice (win0_3.rect t)).emb (ix2 y0 y1) = ix2 (⟨t.val * 512 + y0.val, by omega⟩ : Fin 1024) y1 := by
    blk_ext [idx t]
  rw [out_at]
  simp only [x_block m c t y0 _ ht, weight_block]
  exact (congrArg (memory _ _) place).symm

end
end Cert.MemoryIdeal.Value

namespace Cert.MemoryReferenceIdeal.Value
section
open Cert.MemoryReferenceIdeal Cert.MemoryReferenceIdeal.Gen Cert.Rows

/-- The plain program's array. -/
theorem run_memory (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = memory (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run (F := Ideal) m ρ)
  funext i
  idx_vars i
  pointwise [memory, normRow]

end
end Cert.MemoryReferenceIdeal.Value
end
-- ==== Proof.MixedRows.lean ====
module

public import proofs.«01_k».proof.Proof.Gen.MixedIdeal.Value
public import proofs.«01_k».proof.Proof.Gen.MixedReferenceIdeal.Run
public import proofs.«01_k».proof.Proof.Rows
public import Idealize.ShloMosaic.Lib.StableHlo.ReadAt
public import Idealize.ShloMosaic.Lib.Pointwise
public import Idealize.ShloMosaic.Lib.Tactic
public import Idealize.ShloMosaic.Lib.Pipeline.ValueKit

/-! The rows plus the projection of the two mixers. -/

@[expose] public section

set_option maxRecDepth 16384

noncomputable section

open Idealize.ShloMosaic Idealize.ShloMosaic.TcCoe Idealize.SL.Sem

namespace Cert.MixedIdeal.Value
section
open Cert.MixedIdeal Cert.MixedIdeal.Gen Cert.Rows

/-- The block at row `a`, column `d`. -/
theorem out_at (x0 : Vec Ideal S512x1024 .f32) (x1 x2 : Vec Ideal S512x512 .f32) (x3 x4 : Vec Ideal S512x1024 .bf16) (a : Fin 512) (d : Fin 1024) :
    out0_5 x0 x1 x2 x3 x4 (ix2 a d) =
      (show EReal from x0 (ix2 a d)) + ((∑ k, (show EReal from x1 (ix2 a k)) * x3 (ix2 k d)) + ∑ k, (show EReal from x2 (ix2 a k)) * x4 (ix2 k d)) := by
  unfold out0_5
  rw [View.canon_unit_zero corner, View.ld_unit_zero (S := S512x1024) corner, View.ld_unit_zero (S := S512x512) corner]
  pointwise [k0_pay1]
  exact add_assoc _ _ _

variable (m : (ℓ : Loc nD τ sig) → Buf (Elt Ideal) ℓ) (c : Dev nD) (t : Fin cfg0.N)

/-- Every grid point has its own 512 rows, and the rest whole. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] := by decide +kernel

theorem x_block (a : Fin 512) (d : Fin 1024) :
    iblk m c 0 t (ix2 a d) = m (c, Proc.devRef .tc main_arg0) (ix2 (⟨t.val * 512 + a.val, by have h : t.val < 32 := t.isLt; omega⟩ : Fin 16384) d) := by
  blk_simp [iblk, V]
  after_reads_simp
  blk_ext [idx t]

theorem a_block (a d : Fin 512) :
    iblk m c 1 t (ix2 a d) = m (c, Proc.devRef .tc main_arg1) (ix2 (⟨t.val * 512 + a.val, by have h : t.val < 32 := t.isLt; omega⟩ : Fin 16384) d) := by
  blk_simp [iblk, V]
  after_reads_simp
  blk_ext [idx t]

theorem b_block (a d : Fin 512) :
    iblk m c 2 t (ix2 a d) = m (c, Proc.devRef .tc main_arg2) (ix2 (⟨t.val * 512 + a.val, by have h : t.val < 32 := t.isLt; omega⟩ : Fin 16384) d) := by
  blk_simp [iblk, V]
  after_reads_simp
  blk_ext [idx t]

theorem first_block (k : Fin 512) (d : Fin 1024) : iblk m c 3 t (ix2 k d) = m (c, Proc.devRef .tc main_arg3) (ix2 (⟨k.val, by omega⟩ : Fin 1024) d) := by
  blk_simp [iblk, V]
  after_reads_simp
  have e : (win0_3.blk t).view.emb (ix2 k d) = ix2 k d := by blk_ext [idx t]
  rw [e]
  pointwise

theorem second_block (k : Fin 512) (d : Fin 1024) : iblk m c 4 t (ix2 k d) = m (c, Proc.devRef .tc main_arg3) (ix2 (⟨512 + k.val, by omega⟩ : Fin 1024) d) := by
  blk_simp [iblk, V]
  after_reads_simp
  have e : (win0_4.blk t).view.emb (ix2 k d) = ix2 k d := by blk_ext [idx t]
  rw [e]
  pointwise

/-- The whole array that the kernel leaves. -/
theorem final : (dats m 0 c).arrAt 5 cfg0.N = mixed (m (c, Proc.devRef .tc main_arg0)) (m (c, Proc.devRef .tc main_arg1)) (m (c, Proc.devRef .tc main_arg2)) (m (c, Proc.devRef .tc main_arg3)) := by
  refine (dats m 0 c).arrAt_eq_of_covers 5 _ (by decide +kernel) fun t _ y => ?_
  blk_simp
  rw [after0_5]
  idx_vars y
  have ht : t.val < 32 := t.isLt
  have place : ((View.whole main_v3).slice (win0_5.rect t)).emb (ix2 y0 y1) = ix2 (⟨t.val * 512 + y0.val, by omega⟩ : Fin 16384) y1 := by
    blk_ext [idx t]
  rw [out_at]
  simp only [x_block, a_block, b_block, first_block, second_block]
  exact (congrArg (mixed _ _ _ _) place).symm

end
end Cert.MixedIdeal.Value

namespace Cert.MixedReferenceIdeal.Value
section
open Cert.MixedReferenceIdeal Cert.MixedReferenceIdeal.Gen Cert.Rows

/-- The plain program's array. -/
theorem run_mixed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = mixed (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run (F := Ideal) m ρ)
  funext i
  idx_vars i
  pointwise [mixed, normRow]

end
end Cert.MixedReferenceIdeal.Value
end
-- ==== Proof.RecalledRows.lean ====
module

public import proofs.«01_k».proof.Proof.Gen.RecalledIdeal.Value
public import proofs.«01_k».proof.Proof.Gen.RecalledReferenceIdeal.Run
public import proofs.«01_k».proof.Proof.Rows
public import Idealize.ShloMosaic.Lib.StableHlo.ReadAt
public import Idealize.ShloMosaic.Lib.Pointwise
public import Idealize.ShloMosaic.Lib.Tactic
public import Idealize.ShloMosaic.Lib.Pipeline.ValueKit

/-! The rows plus the projection of the memory's attention. -/

@[expose] public section

set_option maxRecDepth 16384

noncomputable section

open Idealize.ShloMosaic Idealize.ShloMosaic.TcCoe Idealize.SL.Sem

namespace Cert.RecalledIdeal.Value
section
open Cert.RecalledIdeal Cert.RecalledIdeal.Gen Cert.Rows

/-- The block at row `a`, column `d`. -/
theorem out_at (x0 : Vec Ideal S512x1024 .f32) (x1 : Vec Ideal S512x512 .f32) (x2 : Vec Ideal S512x1024 .bf16) (a : Fin 512) (d : Fin 1024) :
    out0_3 x0 x1 x2 (ix2 a d) = (show EReal from x0 (ix2 a d)) + ∑ k, (show EReal from x1 (ix2 a k)) * x2 (ix2 k d) := by
  unfold out0_3
  rw [View.canon_unit_zero corner, View.ld_unit_zero (S := S512x1024) corner, View.ld_unit_zero (S := S512x512) corner]
  pointwise [k0_pay1]

variable (m : (ℓ : Loc nD τ sig) → Buf (Elt Ideal) ℓ) (c : Dev nD) (t : Fin cfg0.N)

/-- Every grid point has its own 512 rows, and the rest whole. -/
theorem idx : ∀ t : Fin cfg0.N, win0_0.index t = ![t.val, 0] ∧ win0_1.index t = ![t.val, 0] ∧ win0_2.index t = ![0, 0] ∧ win0_3.index t = ![t.val, 0] := by decide +kernel

theorem x_block (a : Fin 512) (d : Fin 1024) :
    iblk m c 0 t (ix2 a d) = m (c, Proc.devRef .tc main_arg0) (ix2 (⟨t.val * 512 + a.val, by have h : t.val < 32 := t.isLt; omega⟩ : Fin 16384) d) := by
  blk_simp [iblk, V]
  after_reads_simp
  blk_ext [idx t]

theorem a_block (a d : Fin 512) :
    iblk m c 1 t (ix2 a d) = m (c, Proc.devRef .tc main_arg1) (ix2 (⟨t.val * 512 + a.val, by have h : t.val < 32 := t.isLt; omega⟩ : Fin 16384) d) := by
  blk_simp [iblk, V]
  after_reads_simp
  blk_ext [idx t]

theorem weight_block (k : Fin 512) (d : Fin 1024) : iblk m c 2 t (ix2 k d) = m (c, Proc.devRef .tc main_arg2) (ix2 k d) := by
  blk_simp [iblk, V]
  after_reads_simp
  blk_ext [idx t]

/-- The whole array that the kernel leaves. -/
theorem final : (dats m 0 c).arrAt 3 cfg0.N = recalled (m (c, Proc.devRef .tc main_arg0)) (m (c, Proc.devRef .tc main_arg1)) (m (c, Proc.devRef .tc main_arg2)) := by
  refine (dats m 0 c).arrAt_eq_of_covers 3 _ (by decide +kernel) fun t _ y => ?_
  blk_simp
  rw [after0_3]
  idx_vars y
  have ht : t.val < 32 := t.isLt
  have place : ((View.whole main_v1).slice (win0_3.rect t)).emb (ix2 y0 y1) = ix2 (⟨t.val * 512 + y0.val, by omega⟩ : Fin 16384) y1 := by
    blk_ext [idx t]
  rw [out_at]
  simp only [x_block, a_block, weight_block]
  exact (congrArg (recalled _ _ _) place).symm

end
end Cert.RecalledIdeal.Value

namespace Cert.RecalledReferenceIdeal.Value
section
open Cert.RecalledReferenceIdeal Cert.RecalledReferenceIdeal.Gen Cert.Rows

/-- The plain program's array. -/
theorem run_recalled (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = recalled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run (F := Ideal) m ρ)
  funext i
  idx_vars i
  pointwise [recalled, normRow]

end
end Cert.RecalledReferenceIdeal.Value
end
-- ==== Proof.LastRows.lean ====
module

public import proofs.«01_k».proof.Proof.Gen.LastNormIdeal.Value
public import proofs.«01_k».proof.Proof.Gen.LastNormReferenceIdeal.Run
public import proofs.«01_k».proof.Proof.Rows
public import Idealize.ShloMosaic.Lib.StableHlo.ReadAt
public import Idealize.ShloMosaic.Lib.Pointwise
public import Idealize.ShloMosaic.Lib.Tactic
public import Idealize.ShloMosaic.Lib.Pipeline.ValueKit

/-! The last norm of the rows. -/

@[expose] public section

set_option maxRecDepth 16384

noncomputable section

open Idealize.ShloMosaic Idealize.ShloMosaic.TcCoe Idealize.SL.Sem

namespace Cert.LastNormIdeal.Value
section
open Cert.LastNormIdeal Cert.LastNormIdeal.Gen Cert.Rows

/-- The block at row `a`, lane `d`. -/
theorem out_at (x0 : Vec Ideal S512x1024 .f32) (x1 : Vec Ideal S1x1024 .f32) (a : Fin 512) (d : Fin 1024) :
    out0_2 x0 x1 (ix2 a d) = normRow (fun e => x0 (ix2 a e)) (fun e => x1 (ix2 0 e)) d := by
  unfold out0_2
  rw [View.canon_unit_zero corner, View.ld_unit_zero (S := S512x1024) corner, View.ld_unit_zero (S := S1x1024) corner]
  pointwise [k0_pay1, normRow]

variable (m : (ℓ : Loc nD τ sig) → Buf (Elt Ideal) ℓ) (c : Dev nD) (t : Fin cfg0.N)

/-- Every grid point has its own 512 rows, and the rest whole. -/
theorem idx : ∀ t : Fin cfg0.N, win0_0.index t = ![t.val, 0] ∧ win0_1.index t = ![0, 0] ∧ win0_2.index t = ![t.val, 0] := by decide +kernel

theorem x_block (a : Fin 512) (d : Fin 1024) :
    iblk m c 0 t (ix2 a d) = m (c, Proc.devRef .tc main_arg0) (ix2 (⟨t.val * 512 + a.val, by have h : t.val < 32 := t.isLt; omega⟩ : Fin 16384) d) := by
  blk_simp [iblk, V]
  after_reads_simp
  blk_ext [idx t]

theorem gain_block (d : Fin 1024) : iblk m c 1 t (ix2 0 d) = m (c, Proc.devRef .tc main_arg1) (ix1 d) := by
  blk_simp [iblk, V]
  after_reads_simp
  have e : (win0_1.blk t).view.emb (ix2 0 d) = ix2 0 d := by blk_ext [idx t]
  rw [e]
  pointwise

/-- The whole array that the kernel leaves. -/
theorem final : (dats m 0 c).arrAt 2 cfg0.N = norms (m (c, Proc.devRef .tc main_arg0)) (m (c, Proc.devRef .tc main_arg1)) := by
  refine (dats m 0 c).arrAt_eq_of_covers 2 _ (by decide +kernel) fun t _ y => ?_
  blk_simp
  rw [after0_2]
  idx_vars y
  have ht : t.val < 32 := t.isLt
  have place : ((View.whole main_v1).slice (win0_2.rect t)).emb (ix2 y0 y1) = ix2 (⟨t.val * 512 + y0.val, by omega⟩ : Fin 16384) y1 := by
    blk_ext [idx t]
  rw [out_at]
  simp only [x_block, gain_block]
  exact (congrArg (norms _ _) place).symm

end
end Cert.LastNormIdeal.Value

namespace Cert.LastNormReferenceIdeal.Value
section
open Cert.LastNormReferenceIdeal Cert.LastNormReferenceIdeal.Gen Cert.Rows

/-- The plain program's array. -/
theorem run_norms (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = norms (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run (F := Ideal) m ρ)
  funext i
  idx_vars i
  pointwise [norms, normRow]

end
end Cert.LastNormReferenceIdeal.Value
end
-- ==== Proof.RefRow.lean ====
module

public import proofs.«01_k».proof.Proof.RefRead
public import proofs.«01_k».proof.Proof.Common
public import Idealize.ShloMosaic.Lib.WordCmp
public import Idealize.ShloMosaic.Lib.Pointwise
public import Idealize.ShloMosaic.Lib.Tactic

/-! One row of the plain program: softmax over the keys not after the query, twice, the difference times the values. -/

@[expose] public section

set_option maxRecDepth 16384

noncomputable section

open Idealize.ShloMosaic Idealize.ShloMosaic.TcCoe Idealize.SL.Sem

namespace Cert.ReferenceIdeal.Value
open Cert.ReferenceIdeal Cert.ReferenceIdeal.Gen Cert.Diff Cert.Softmax

section
variable (V0 : Valuation τ sig (Elt Ideal)) (b h : Fin 4) (p n : Fin 4096) (e : Fin 128)

/-- A key counts where it is not after the query. -/
theorem causal (α : Type) (x y : α) : Scalar.select (IntOp.cmpi .sle (BitVec.ofNat 32 n.val) (BitVec.ofNat 32 p.val)) x y = if n.val ≤ p.val then x else y := by
  have h1 := n.isLt
  have h2 := p.isLt
  word_cmp

/-- The masked scores of the first half. -/
theorem masked1 : res_main_v102 V0 (ix4 b h p n) = if n.val ≤ p.val then
    (∑ x : Fin 64, (show EReal from res_main_v63 V0 (ix4 b p h (⟨x.val, by omega⟩ : Fin 128))) * (show EReal from res_main_v66 V0 (ix4 b n h (⟨x.val, by omega⟩ : Fin 128)))) * Ideal.ofBits .f32 1040187392#32
    else ⊥ := by
  pointwise [res_main_v102, res_main_v91]
  rw [causal, ← negInf]
  rfl

/-- The masked scores of the second half. -/
theorem masked2 : res_main_v114 V0 (ix4 b h p n) = if n.val ≤ p.val then
    (∑ x : Fin 64, (show EReal from res_main_v63 V0 (ix4 b p h (⟨64 + x.val, by omega⟩ : Fin 128))) * (show EReal from res_main_v66 V0 (ix4 b n h (⟨64 + x.val, by omega⟩ : Fin 128)))) * Ideal.ofBits .f32 1040187392#32
    else ⊥ := by
  pointwise [res_main_v114, res_main_v91]
  rw [causal, ← negInf]
  rfl

/-- The two softmaxes' difference times the values, before it is read at reals. -/
theorem mix_at : res_main_v130 V0 (ix4 b p h e) = ∑ x : Fin 4096, (show EReal from res_main_v64 V0 (ix5 b x 1 h e)) *
    (Ideal.div (res_main_v109 V0 (ix4 b h p x)) (∑ y : Fin 4096, (show EReal from res_main_v109 V0 (ix4 b h p y)))
      - lamOf (V0 (Proc.devRef .tc main_arg2)) * Ideal.div (res_main_v121 V0 (ix4 b h p x)) (∑ y : Fin 4096, (show EReal from res_main_v121 V0 (ix4 b h p y)))) := by
  pointwise [res_main_v130, lamOf]

/-- A row of exponentials, of masked scores that are real where they count. -/
theorem exp_row (x : FVec Ideal S4x4x4096x4096 .f32) (σ : ℕ → ℝ) (hx : ∀ n : Fin 4096, x (ix4 b h p n) = if n.val ≤ p.val then (σ n.val : EReal) else ⊥) :
    expMax x (rowMax x) (ix4 b h p n) = Ideal.exp ((if n.val ≤ p.val then (σ n.val : EReal) else ⊥) - Finset.fold max (⊥ : EReal) (fun k : Fin 4096 => if k.val ≤ p.val then (σ k.val : EReal) else ⊥) Finset.univ) := by
  rw [expMax_at, rowMax_at, hx]
  simp only [hx]

/-- THE ROW. The plain program's attention, of real scores, values and lambda. -/
theorem row_att (σ1 σ2 ν : ℕ → ℝ) (lam : ℝ)
    (h1 : ∀ n : Fin 4096, res_main_v102 V0 (ix4 b h p n) = if n.val ≤ p.val then (σ1 n.val : EReal) else ⊥)
    (h2 : ∀ n : Fin 4096, res_main_v114 V0 (ix4 b h p n) = if n.val ≤ p.val then (σ2 n.val : EReal) else ⊥)
    (hν : ∀ n : Fin 4096, res_main_v64 V0 (ix5 b n 1 h e) = (ν n.val : EReal)) (hl : lamOf (V0 (Proc.devRef .tc main_arg2)) = (lam : EReal)) :
    res_main_v130 V0 (ix4 b p h e) = ((att σ1 ν (p.val + 1) - lam * att σ2 ν (p.val + 1) : ℝ) : EReal) := by
  obtain ⟨p1, e1, a1⟩ := plain (n := 4096) σ1 p.val p.isLt
  obtain ⟨p2, e2, a2⟩ := plain (n := 4096) σ2 p.val p.isLt
  rw [mix_at, exp1, exp2]
  simp only [exp_row b h p _ _ σ1 h1, exp_row b h p _ _ σ2 h2, e1, e2, hν, hl, ← EReal.coe_mul, ← EReal.coe_sub, coe_sum]
  rw [← a1 ν, ← a2 ν, Finset.mul_sum, ← Finset.sum_sub_distrib]
  exact congrArg _ (Finset.sum_congr rfl fun _ _ => by ring)

end

end Cert.ReferenceIdeal.Value
end
-- ==== Proof.RefFinal.lean ====
module

public import proofs.«01_k».proof.Proof.RefRow
public import proofs.«01_k».proof.Proof.Common
public import Idealize.ShloMosaic.Lib.WordCmp
public import Idealize.ShloMosaic.Lib.Pointwise
public import Idealize.ShloMosaic.Lib.Tactic

/-! The plain program computes the differential attention in full. -/

@[expose] public section

set_option maxRecDepth 16384

noncomputable section

open Idealize.ShloMosaic Idealize.ShloMosaic.TcCoe Idealize.SL.Sem

namespace Cert.ReferenceIdeal.Value
open Cert.ReferenceIdeal Cert.ReferenceIdeal.Gen Cert.Diff Cert.Softmax

/-- The plain program's result, of real queries, keys, values and lambda vectors. -/
theorem result_eq (V0 : Valuation τ sig (Elt Ideal)) (z : QArr) (kv : KvArr) (lam : LamArr) (g : GainArr)
    (ez : V0 (Proc.devRef .tc main_arg0) = z) (ek : V0 (Proc.devRef .tc main_arg1) = kv) (el : V0 (Proc.devRef .tc main_arg2) = lam)
    (hz : RealQueries z)
    (hkv : ∀ i, ∃ a : ℝ, kv i = (a : EReal)) (hl : ∀ i, ∃ a : ℝ, lam i = (a : EReal)) :
    normRows (res_main_v130 V0) g = want z kv lam g := by
  have key : ∀ (b h : Fin 4) (n : Fin 4096) (e : Fin 128), res_main_v66 V0 (ix4 b n h e) = (kr kv b.val n.val h.val e.val : EReal) := fun b h n e =>
    (key_at V0 b h n e kv ek).trans (kr_eq kv hkv b ⟨h.val, by omega⟩ n e _ _ rfl rfl)
  have value : ∀ (b h : Fin 4) (n : Fin 4096) (e : Fin 128), res_main_v64 V0 (ix5 b n 1 h e) = (kr kv b.val n.val (4 + h.val) e.val : EReal) := fun b h n e =>
    (value_at V0 b h n e kv ek).trans (kr_eq kv hkv b ⟨4 + h.val, by omega⟩ n e _ _ rfl (by simp only; omega))
  have query : ∀ (b h : Fin 4) (p : Fin 4096) (e : Fin 128), res_main_v63 V0 (ix4 b p h e) = (rot (qr z b.val p.val h.val) p.val e.val : EReal) := fun b h p e =>
    rot_at V0 b h p e _ fun e => (query_at V0 b h p e z ez).trans (qr_eq z hz b h p e _ _ rfl rfl)
  have m1 : ∀ (b h : Fin 4) (p n : Fin 4096), res_main_v102 V0 (ix4 b h p n) = if n.val ≤ p.val then (sc1 z kv b.val p.val h.val n.val : EReal) else ⊥ := by
    intro b h p n
    rw [masked1]
    simp only [query, key, scale_eq, ← EReal.coe_mul, coe_sum]
    rfl
  have m2 : ∀ (b h : Fin 4) (p n : Fin 4096), res_main_v114 V0 (ix4 b h p n) = if n.val ≤ p.val then (sc2 z kv b.val p.val h.val n.val : EReal) else ⊥ := by
    intro b h p n
    rw [masked2]
    simp only [query, key, scale_eq, ← EReal.coe_mul, coe_sum]
    rfl
  have row : ∀ (b h : Fin 4) (p : Fin 4096) (e : Fin 128), res_main_v130 V0 (ix4 b p h e) = (mix z kv lam b.val p.val h.val e.val : EReal) := fun b h p e =>
    row_att V0 b h p e _ _ _ _ (m1 b h p) (m2 b h p) (fun n => value b h n e) ((congrArg lamOf el).trans (lam_eq lam hl))
  funext i
  idx_vars i
  rw [normRows_at]
  simp only [row]
  rfl

end Cert.ReferenceIdeal.Value
end
-- ==== Proof.lean ====
/- The kernel and the plain program leave the same array: each of them the differential attention
   `Cert.Diff.want` of the arguments. `Cert.KernelIdeal.Value.final` is the kernel's half,
   `Cert.ReferenceIdeal.Value.result_eq` the plain program's; here the two are set side by side. So too
   for the feed-forward block `Cert.Rows.ffn`: `Cert.FfnIdeal.Value.final` and `Cert.FfnReferenceIdeal.Value.run_ffn`.
   And for the projections and the last norm, each with its `final` and its `run_...`. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal.Run
public import proofs.«01_k».proof.Proof.Gen.InEven.Frame
public import proofs.«01_k».proof.Proof.Gen.InEvenIdeal.Value
public import proofs.«01_k».proof.Proof.Gen.InEvenReferenceIdeal.Run
public import proofs.«01_k».proof.Proof.Gen.InOdd.Frame
public import proofs.«01_k».proof.Proof.Gen.InOddIdeal.Value
public import proofs.«01_k».proof.Proof.Gen.InOddReferenceIdeal.Run
public import proofs.«01_k».proof.Proof.Gen.MemQuery.Frame
public import proofs.«01_k».proof.Proof.Gen.MemQueryIdeal.Value
public import proofs.«01_k».proof.Proof.Gen.MemQueryReferenceIdeal.Run
public import proofs.«01_k».proof.Proof.Gen.Memory.Frame
public import proofs.«01_k».proof.Proof.Gen.MemoryIdeal.Value
public import proofs.«01_k».proof.Proof.Gen.MemoryReferenceIdeal.Run
public import proofs.«01_k».proof.Proof.Gen.Mixed.Frame
public import proofs.«01_k».proof.Proof.Gen.MixedIdeal.Value
public import proofs.«01_k».proof.Proof.Gen.MixedReferenceIdeal.Run
public import proofs.«01_k».proof.Proof.Gen.Recalled.Frame
public import proofs.«01_k».proof.Proof.Gen.RecalledIdeal.Value
public import proofs.«01_k».proof.Proof.Gen.RecalledReferenceIdeal.Run
public import proofs.«01_k».proof.Proof.Gen.LastNorm.Frame
public import proofs.«01_k».proof.Proof.Gen.LastNormIdeal.Value
public import proofs.«01_k».proof.Proof.Gen.LastNormReferenceIdeal.Run
public import proofs.«01_k».proof.Proof.Gen.Recall.Frame
public import proofs.«01_k».proof.Proof.Gen.RecallIdeal.Value
public import proofs.«01_k».proof.Proof.RecallPoint
public import proofs.«01_k».proof.Proof.Gen.DiffKv.Frame
public import proofs.«01_k».proof.Proof.Gen.DiffKvIdeal.Value
public import proofs.«01_k».proof.Proof.Gen.DiffKvReferenceIdeal.Run
public import proofs.«01_k».proof.Proof.TurnPoint
public import proofs.«01_k».proof.Proof.TurnRef
public import proofs.«01_k».proof.Proof.RecallRef
public import proofs.«01_k».proof.Proof.Finite
public import proofs.«01_k».proof.Proof.Point
public import proofs.«01_k».proof.Proof.FfnPoint
public import proofs.«01_k».proof.Proof.FfnRef
public import proofs.«01_k».proof.Proof.EvenRows
public import proofs.«01_k».proof.Proof.OddRows
public import proofs.«01_k».proof.Proof.QueryRows
public import proofs.«01_k».proof.Proof.MemoryRows
public import proofs.«01_k».proof.Proof.MixedRows
public import proofs.«01_k».proof.Proof.RecalledRows
public import proofs.«01_k».proof.Proof.LastRows
public import proofs.«01_k».proof.Proof.RefFinal
public import Idealize.ShloMosaic.Adequacy
public import Idealize.ShloMosaic.Init

@[expose] public section

noncomputable section

namespace Cert.Proof

open Idealize.ShloMosaic Idealize.SL.Sem

/-- The plain program leaves its arguments and every semaphore as they were. -/
theorem reference_quiescent : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the plain program compute the same array. -/
theorem same : Cert.algebraic_KernelIdeal_ReferenceIdeal_pre_attends_finite := by
  intro m ρ m' ρ' hpre hag
  refine ⟨fun c => Cert.Diff.want (m (c, Proc.devRef .tc Cert.KernelIdeal.main_arg0)) (m (c, Proc.devRef .tc Cert.KernelIdeal.main_arg1))
    (m (c, Proc.devRef .tc Cert.KernelIdeal.main_arg2)) (m (c, Proc.devRef .tc Cert.KernelIdeal.main_arg3)), ?_, ?_⟩
  · refine (θ_run Cert.KernelIdeal.defs _ _).mono (fun r h c => ⟨(h c).1.trans ?_, (h c).2⟩) (Cert.KernelIdeal.Value.run_blocks (F := Ideal) m ρ)
    exact Cert.KernelIdeal.Value.final m c _ _ _ _ rfl rfl rfl rfl
      (Cert.Pre_attends_finite.query_real _ _ _ _ (hpre c).1) (Cert.Pre_attends_finite.kv_real _ _ _ _ (hpre c).2.1)
      (Cert.Pre_attends_finite.lam_real _ _ _ _ (hpre c).2.2)
  · refine (θ_run Cert.ReferenceIdeal.defs _ _).mono (fun r h c => ⟨(h c).1.trans ?_, (h c).2⟩) (Cert.ReferenceIdeal.Value.run (F := Ideal) m' ρ')
    refine Eq.trans ?_ (Cert.ReferenceIdeal.Value.result_eq (StableHlo.launchContents m' c) _ _ _ _ (hag c).1 (hag c).2.1 (hag c).2.2.1
      (Cert.Pre_attends_finite.query_real _ _ _ _ (hpre c).1) (Cert.Pre_attends_finite.kv_real _ _ _ _ (hpre c).2.1)
      (Cert.Pre_attends_finite.lam_real _ _ _ _ (hpre c).2.2))
    exact congrArg (Cert.ReferenceIdeal.Value.normRows _) (hag c).2.2.2

/-- The plain feed-forward block leaves its arguments and every semaphore as they were. -/
theorem ffn_reference_quiescent : Cert.quiescent_FfnReferenceIdeal := fun m ρ _ =>
  (θ_run Cert.FfnReferenceIdeal.defs _ _).mono
    (fun r h => ⟨fun c => (h c).2, sem_eq_zero_of_no_sems (by decide) r.2⟩)
    (Cert.FfnReferenceIdeal.Value.run (F := Ideal) m ρ)

/-- The feed-forward kernel and the plain block compute the same array. -/
theorem ffn_same : Cert.algebraic_FfnIdeal_FfnReferenceIdeal := by
  intro m ρ m' ρ' _ hag
  refine ⟨fun c => Cert.Rows.ffn (m (c, Proc.devRef .tc Cert.FfnIdeal.main_arg0)) (m (c, Proc.devRef .tc Cert.FfnIdeal.main_arg1))
    (m (c, Proc.devRef .tc Cert.FfnIdeal.main_arg2)) (m (c, Proc.devRef .tc Cert.FfnIdeal.main_arg3)) (m (c, Proc.devRef .tc Cert.FfnIdeal.main_arg4)), ?_, ?_⟩
  · exact (θ_run Cert.FfnIdeal.defs _ _).mono (fun r h c => ⟨(h c).1.trans (Cert.FfnIdeal.Value.final m c), (h c).2⟩)
      (Cert.FfnIdeal.Value.run_blocks (F := Ideal) m ρ)
  · refine (θ_run Cert.FfnReferenceIdeal.defs _ _).mono (fun r h c => ⟨(h c).1.trans ?_, (h c).2⟩) (Cert.FfnReferenceIdeal.Value.run_ffn m' ρ')
    obtain ⟨h0, h1, h2, h3, h4⟩ := hag c
    rw [h0, h1, h2, h3, h4]

/-- The projection of the first kind of mixers: the plain program leaves its arguments and every semaphore as they were. -/
theorem in_even_reference_quiescent : Cert.quiescent_InEvenReferenceIdeal := fun m ρ _ =>
  (θ_run Cert.InEvenReferenceIdeal.defs _ _).mono
    (fun r h => ⟨fun c => (h c).2, sem_eq_zero_of_no_sems (by decide) r.2⟩)
    (Cert.InEvenReferenceIdeal.Value.run (F := Ideal) m ρ)

/-- The projection of the first kind of mixers: the kernel and the plain program compute the same array. -/
theorem in_even_same : Cert.algebraic_InEvenIdeal_InEvenReferenceIdeal := by
  intro m ρ m' ρ' _ hag
  refine ⟨fun c => Cert.Rows.project (m (c, Proc.devRef .tc Cert.InEvenIdeal.main_arg0)) (m (c, Proc.devRef .tc Cert.InEvenIdeal.main_arg1)) (m (c, Proc.devRef .tc Cert.InEvenIdeal.main_arg2)), ?_, ?_⟩
  · exact (θ_run Cert.InEvenIdeal.defs _ _).mono (fun r h c => ⟨(h c).1.trans (Cert.InEvenIdeal.Value.final m c), (h c).2⟩)
      (Cert.InEvenIdeal.Value.run_blocks (F := Ideal) m ρ)
  · refine (θ_run Cert.InEvenReferenceIdeal.defs _ _).mono (fun r h c => ⟨(h c).1.trans ?_, (h c).2⟩) (Cert.InEvenReferenceIdeal.Value.run_project m' ρ')
    obtain ⟨h0, h1, h2⟩ := hag c
    rw [h0, h1, h2]

/-- The projection of the second kind of mixers: the plain program leaves its arguments and every semaphore as they were. -/
theorem in_odd_reference_quiescent : Cert.quiescent_InOddReferenceIdeal := fun m ρ _ =>
  (θ_run Cert.InOddReferenceIdeal.defs _ _).mono
    (fun r h => ⟨fun c => (h c).2, sem_eq_zero_of_no_sems (by decide) r.2⟩)
    (Cert.InOddReferenceIdeal.Value.run (F := Ideal) m ρ)

/-- The projection of the second kind of mixers: the kernel and the plain program compute the same array. -/
theorem in_odd_same : Cert.algebraic_InOddIdeal_InOddReferenceIdeal := by
  intro m ρ m' ρ' _ hag
  refine ⟨fun c => Cert.Rows.project (m (c, Proc.devRef .tc Cert.InOddIdeal.main_arg0)) (m (c, Proc.devRef .tc Cert.InOddIdeal.main_arg1)) (m (c, Proc.devRef .tc Cert.InOddIdeal.main_arg2)), ?_, ?_⟩
  · exact (θ_run Cert.InOddIdeal.defs _ _).mono (fun r h c => ⟨(h c).1.trans (Cert.InOddIdeal.Value.final m c), (h c).2⟩)
      (Cert.InOddIdeal.Value.run_blocks (F := Ideal) m ρ)
  · refine (θ_run Cert.InOddReferenceIdeal.defs _ _).mono (fun r h c => ⟨(h c).1.trans ?_, (h c).2⟩) (Cert.InOddReferenceIdeal.Value.run_project m' ρ')
    obtain ⟨h0, h1, h2⟩ := hag c
    rw [h0, h1, h2]

/-- The projection of the memory's queries: the plain program leaves its arguments and every semaphore as they were. -/
theorem mem_query_reference_quiescent : Cert.quiescent_MemQueryReferenceIdeal := fun m ρ _ =>
  (θ_run Cert.MemQueryReferenceIdeal.defs _ _).mono
    (fun r h => ⟨fun c => (h c).2, sem_eq_zero_of_no_sems (by decide) r.2⟩)
    (Cert.MemQueryReferenceIdeal.Value.run (F := Ideal) m ρ)

/-- The projection of the memory's queries: the kernel and the plain program compute the same array. -/
theorem mem_query_same : Cert.algebraic_MemQueryIdeal_MemQueryReferenceIdeal := by
  intro m ρ m' ρ' _ hag
  refine ⟨fun c => Cert.Rows.project (m (c, Proc.devRef .tc Cert.MemQueryIdeal.main_arg0)) (m (c, Proc.devRef .tc Cert.MemQueryIdeal.main_arg1)) (m (c, Proc.devRef .tc Cert.MemQueryIdeal.main_arg2)), ?_, ?_⟩
  · exact (θ_run Cert.MemQueryIdeal.defs _ _).mono (fun r h c => ⟨(h c).1.trans (Cert.MemQueryIdeal.Value.final m c), (h c).2⟩)
      (Cert.MemQueryIdeal.Value.run_blocks (F := Ideal) m ρ)
  · refine (θ_run Cert.MemQueryReferenceIdeal.defs _ _).mono (fun r h c => ⟨(h c).1.trans ?_, (h c).2⟩) (Cert.MemQueryReferenceIdeal.Value.run_project m' ρ')
    obtain ⟨h0, h1, h2⟩ := hag c
    rw [h0, h1, h2]

/-- The memory's keys and values: the plain program leaves its arguments and every semaphore as they were. -/
theorem memory_reference_quiescent : Cert.quiescent_MemoryReferenceIdeal := fun m ρ _ =>
  (θ_run Cert.MemoryReferenceIdeal.defs _ _).mono
    (fun r h => ⟨fun c => (h c).2, sem_eq_zero_of_no_sems (by decide) r.2⟩)
    (Cert.MemoryReferenceIdeal.Value.run (F := Ideal) m ρ)

/-- The memory's keys and values: the kernel and the plain program compute the same array. -/
theorem memory_same : Cert.algebraic_MemoryIdeal_MemoryReferenceIdeal := by
  intro m ρ m' ρ' _ hag
  refine ⟨fun c => Cert.Rows.memory (m (c, Proc.devRef .tc Cert.MemoryIdeal.main_arg0)) (m (c, Proc.devRef .tc Cert.MemoryIdeal.main_arg1)), ?_, ?_⟩
  · exact (θ_run Cert.MemoryIdeal.defs _ _).mono (fun r h c => ⟨(h c).1.trans (Cert.MemoryIdeal.Value.final m c), (h c).2⟩)
      (Cert.MemoryIdeal.Value.run_blocks (F := Ideal) m ρ)
  · refine (θ_run Cert.MemoryReferenceIdeal.defs _ _).mono (fun r h c => ⟨(h c).1.trans ?_, (h c).2⟩) (Cert.MemoryReferenceIdeal.Value.run_memory m' ρ')
    obtain ⟨h0, h1⟩ := hag c
    rw [h0, h1]

/-- The projection of the two mixers: the plain program leaves its arguments and every semaphore as they were. -/
theorem mixed_reference_quiescent : Cert.quiescent_MixedReferenceIdeal := fun m ρ _ =>
  (θ_run Cert.MixedReferenceIdeal.defs _ _).mono
    (fun r h => ⟨fun c => (h c).2, sem_eq_zero_of_no_sems (by decide) r.2⟩)
    (Cert.MixedReferenceIdeal.Value.run (F := Ideal) m ρ)

/-- The projection of the two mixers: the kernel and the plain program compute the same array. -/
theorem mixed_same : Cert.algebraic_MixedIdeal_MixedReferenceIdeal := by
  intro m ρ m' ρ' _ hag
  refine ⟨fun c => Cert.Rows.mixed (m (c, Proc.devRef .tc Cert.MixedIdeal.main_arg0)) (m (c, Proc.devRef .tc Cert.MixedIdeal.main_arg1)) (m (c, Proc.devRef .tc Cert.MixedIdeal.main_arg2)) (m (c, Proc.devRef .tc Cert.MixedIdeal.main_arg3)), ?_, ?_⟩
  · exact (θ_run Cert.MixedIdeal.defs _ _).mono (fun r h c => ⟨(h c).1.trans (Cert.MixedIdeal.Value.final m c), (h c).2⟩)
      (Cert.MixedIdeal.Value.run_blocks (F := Ideal) m ρ)
  · refine (θ_run Cert.MixedReferenceIdeal.defs _ _).mono (fun r h c => ⟨(h c).1.trans ?_, (h c).2⟩) (Cert.MixedReferenceIdeal.Value.run_mixed m' ρ')
    obtain ⟨h0, h1, h2, h3⟩ := hag c
    rw [h0, h1, h2, h3]

/-- The projection of the memory's attention: the plain program leaves its arguments and every semaphore as they were. -/
theorem recalled_reference_quiescent : Cert.quiescent_RecalledReferenceIdeal := fun m ρ _ =>
  (θ_run Cert.RecalledReferenceIdeal.defs _ _).mono
    (fun r h => ⟨fun c => (h c).2, sem_eq_zero_of_no_sems (by decide) r.2⟩)
    (Cert.RecalledReferenceIdeal.Value.run (F := Ideal) m ρ)

/-- The projection of the memory's attention: the kernel and the plain program compute the same array. -/
theorem recalled_same : Cert.algebraic_RecalledIdeal_RecalledReferenceIdeal := by
  intro m ρ m' ρ' _ hag
  refine ⟨fun c => Cert.Rows.recalled (m (c, Proc.devRef .tc Cert.RecalledIdeal.main_arg0)) (m (c, Proc.devRef .tc Cert.RecalledIdeal.main_arg1)) (m (c, Proc.devRef .tc Cert.RecalledIdeal.main_arg2)), ?_, ?_⟩
  · exact (θ_run Cert.RecalledIdeal.defs _ _).mono (fun r h c => ⟨(h c).1.trans (Cert.RecalledIdeal.Value.final m c), (h c).2⟩)
      (Cert.RecalledIdeal.Value.run_blocks (F := Ideal) m ρ)
  · refine (θ_run Cert.RecalledReferenceIdeal.defs _ _).mono (fun r h c => ⟨(h c).1.trans ?_, (h c).2⟩) (Cert.RecalledReferenceIdeal.Value.run_recalled m' ρ')
    obtain ⟨h0, h1, h2⟩ := hag c
    rw [h0, h1, h2]

/-- The last norm: the plain program leaves its arguments and every semaphore as they were. -/
theorem last_norm_reference_quiescent : Cert.quiescent_LastNormReferenceIdeal := fun m ρ _ =>
  (θ_run Cert.LastNormReferenceIdeal.defs _ _).mono
    (fun r h => ⟨fun c => (h c).2, sem_eq_zero_of_no_sems (by decide) r.2⟩)
    (Cert.LastNormReferenceIdeal.Value.run (F := Ideal) m ρ)

/-- The last norm: the kernel and the plain program compute the same array. -/
theorem last_norm_same : Cert.algebraic_LastNormIdeal_LastNormReferenceIdeal := by
  intro m ρ m' ρ' _ hag
  refine ⟨fun c => Cert.Rows.norms (m (c, Proc.devRef .tc Cert.LastNormIdeal.main_arg0)) (m (c, Proc.devRef .tc Cert.LastNormIdeal.main_arg1)), ?_, ?_⟩
  · exact (θ_run Cert.LastNormIdeal.defs _ _).mono (fun r h c => ⟨(h c).1.trans (Cert.LastNormIdeal.Value.final m c), (h c).2⟩)
      (Cert.LastNormIdeal.Value.run_blocks (F := Ideal) m ρ)
  · refine (θ_run Cert.LastNormReferenceIdeal.defs _ _).mono (fun r h c => ⟨(h c).1.trans ?_, (h c).2⟩) (Cert.LastNormReferenceIdeal.Value.run_norms m' ρ')
    obtain ⟨h0, h1⟩ := hag c
    rw [h0, h1]

/-- The attention over the memory: the plain program leaves its arguments and every semaphore as they were. -/
theorem recall_reference_quiescent : Cert.quiescent_RecallReferenceIdeal := fun m ρ _ =>
  (θ_run Cert.RecallReferenceIdeal.defs _ _).mono
    (fun r h => ⟨fun c => (h c).2, sem_eq_zero_of_no_sems (by decide) r.2⟩)
    (Cert.RecallReferenceIdeal.Value.run (F := Ideal) m ρ)

/-- The attention over the memory: the kernel and the plain program compute the same array. -/
theorem recall_same : Cert.algebraic_RecallIdeal_RecallReferenceIdeal_pre_recalls_finite := by
  intro m ρ m' ρ' hpre hag
  refine ⟨fun c => Cert.Recalling.attend (m (c, Proc.devRef .tc Cert.RecallIdeal.main_arg0)) (m (c, Proc.devRef .tc Cert.RecallIdeal.main_arg1)), ?_, ?_⟩
  · exact (θ_run Cert.RecallIdeal.defs _ _).mono (fun r h c => ⟨(h c).1.trans (Cert.RecallIdeal.Value.final m c), (h c).2⟩)
      (Cert.RecallIdeal.Value.run_blocks (F := Ideal) m ρ)
  · have hr : ∀ c, Cert.Recalling.RealScores (m' (c, Proc.devRef .tc Cert.RecallReferenceIdeal.main_arg0)) (m' (c, Proc.devRef .tc Cert.RecallReferenceIdeal.main_arg1)) := fun c => by
      have h := Cert.Pre_recalls_finite.real_scores _ _ (hpre c)
      rw [← (hag c).1, ← (hag c).2] at h
      exact h
    refine (θ_run Cert.RecallReferenceIdeal.defs _ _).mono (fun r h c => ⟨(h c).1.trans ?_, (h c).2⟩) (Cert.RecallReferenceIdeal.Value.run_attend m' ρ' hr)
    obtain ⟨h0, h1⟩ := hag c
    rw [h0, h1]

/-- The keys and values: the plain program leaves its arguments and every semaphore as they were. -/
theorem diff_kv_reference_quiescent : Cert.quiescent_DiffKvReferenceIdeal := fun m ρ _ =>
  (θ_run Cert.DiffKvReferenceIdeal.defs _ _).mono
    (fun r h => ⟨fun c => (h c).2, sem_eq_zero_of_no_sems (by decide) r.2⟩)
    (Cert.DiffKvReferenceIdeal.Value.run (F := Ideal) m ρ)

/-- The keys and values: the kernel and the plain program compute the same array. -/
theorem diff_kv_same : Cert.algebraic_DiffKvIdeal_DiffKvReferenceIdeal := by
  intro m ρ m' ρ' _ hag
  refine ⟨fun c => Cert.Turning.keysValues (m (c, Proc.devRef .tc Cert.DiffKvIdeal.main_arg0)), ?_, ?_⟩
  · exact (θ_run Cert.DiffKvIdeal.defs _ _).mono (fun r h c => ⟨(h c).1.trans (Cert.DiffKvIdeal.Value.final m c), (h c).2⟩)
      (Cert.DiffKvIdeal.Value.run_blocks (F := Ideal) m ρ)
  · refine (θ_run Cert.DiffKvReferenceIdeal.defs _ _).mono (fun r h c => ⟨(h c).1.trans ?_, (h c).2⟩) (Cert.DiffKvReferenceIdeal.Value.run_turn m' ρ')
    rw [hag c]

theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts, Cert.InEven.Gen.facts, Cert.InEvenIdeal.Gen.facts, Cert.InEvenReferenceIdeal.Gen.facts, Cert.InOdd.Gen.facts, Cert.InOddIdeal.Gen.facts, Cert.InOddReferenceIdeal.Gen.facts, Cert.MemQuery.Gen.facts, Cert.MemQueryIdeal.Gen.facts, Cert.MemQueryReferenceIdeal.Gen.facts, Cert.Memory.Gen.facts, Cert.MemoryIdeal.Gen.facts, Cert.MemoryReferenceIdeal.Gen.facts, Cert.Mixed.Gen.facts, Cert.MixedIdeal.Gen.facts, Cert.MixedReferenceIdeal.Gen.facts, Cert.Recalled.Gen.facts, Cert.RecalledIdeal.Gen.facts, Cert.RecalledReferenceIdeal.Gen.facts, Cert.LastNorm.Gen.facts, Cert.LastNormIdeal.Gen.facts, Cert.LastNormReferenceIdeal.Gen.facts, Cert.Recall.Gen.facts, Cert.RecallIdeal.Gen.facts, Cert.RecallReferenceIdeal.Gen.facts, Cert.DiffKv.Gen.facts, Cert.DiffKvIdeal.Gen.facts, Cert.DiffKvReferenceIdeal.Gen.facts, Cert.Pre_attends_finite.facts, Cert.Pre_recalls_finite.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    fun m ρ _ => Cert.Ffn.Gen.frame m ρ, fun m ρ _ => Cert.FfnIdeal.Gen.frame m ρ, ffn_reference_quiescent,
    fun m ρ _ => Cert.InEven.Gen.frame m ρ, fun m ρ _ => Cert.InEvenIdeal.Gen.frame m ρ, in_even_reference_quiescent,
    fun m ρ _ => Cert.InOdd.Gen.frame m ρ, fun m ρ _ => Cert.InOddIdeal.Gen.frame m ρ, in_odd_reference_quiescent,
    fun m ρ _ => Cert.MemQuery.Gen.frame m ρ, fun m ρ _ => Cert.MemQueryIdeal.Gen.frame m ρ, mem_query_reference_quiescent,
    fun m ρ _ => Cert.Memory.Gen.frame m ρ, fun m ρ _ => Cert.MemoryIdeal.Gen.frame m ρ, memory_reference_quiescent,
    fun m ρ _ => Cert.Mixed.Gen.frame m ρ, fun m ρ _ => Cert.MixedIdeal.Gen.frame m ρ, mixed_reference_quiescent,
    fun m ρ _ => Cert.Recalled.Gen.frame m ρ, fun m ρ _ => Cert.RecalledIdeal.Gen.frame m ρ, recalled_reference_quiescent,
    fun m ρ _ => Cert.LastNorm.Gen.frame m ρ, fun m ρ _ => Cert.LastNormIdeal.Gen.frame m ρ, last_norm_reference_quiescent,
    fun m ρ _ => Cert.Recall.Gen.frame m ρ, fun m ρ _ => Cert.RecallIdeal.Gen.frame m ρ, fun m ρ _ => Cert.RecallIdeal.Gen.frame m ρ,
    recall_reference_quiescent, fun m ρ _ => recall_reference_quiescent m ρ trivial,
    fun m ρ _ => Cert.DiffKv.Gen.frame m ρ, fun m ρ _ => Cert.DiffKvIdeal.Gen.frame m ρ, diff_kv_reference_quiescent,
    trivial, same, trivial, ffn_same, trivial, in_even_same, trivial, in_odd_same, trivial, mem_query_same, trivial, memory_same, trivial, mixed_same, trivial, recalled_same, trivial, last_norm_same, trivial, recall_same, trivial, diff_kv_same⟩

end Cert.Proof

end
